-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v347) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4x2048x128 : Shape := ⟨3, ![4, 2048, 128]⟩
abbrev S128x1x9 : Shape := ⟨3, ![128, 1, 9]⟩
abbrev S128x128 : Shape := ⟨2, ![128, 128]⟩
abbrev S128 : Shape := ⟨1, ![128]⟩
abbrev S1x128x1x1 : Shape := ⟨4, ![1, 128, 1, 1]⟩
abbrev S128x1x7 : Shape := ⟨3, ![128, 1, 7]⟩
abbrev S_ : Shape := ⟨0, ![]⟩

class Facts : Prop where
  bcast_S_S4x2048x128 : S_.BroadcastsInDim S4x2048x128 (![] : Fin 0 → Fin S4x2048x128.rank)
  reducesTo_S4x2048x128_S_d0_1_2 : S4x2048x128.ReducesTo [0, 1, 2] S_
  h_S_ : 0 < S_.numel
  bcast_S_S128x1x9 : S_.BroadcastsInDim S128x1x9 (![] : Fin 0 → Fin S128x1x9.rank)
  reducesTo_S128x1x9_S_d0_1_2 : S128x1x9.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1x128x1x1 : S_.BroadcastsInDim S1x128x1x1 (![] : Fin 0 → Fin S1x128x1x1.rank)
  reducesTo_S1x128x1x1_S_d0_1_2_3 : S1x128x1x1.ReducesTo [0, 1, 2, 3] S_
  bcast_S_S128x1x7 : S_.BroadcastsInDim S128x1x7 (![] : Fin 0 → Fin S128x1x7.rank)
  reducesTo_S128x1x7_S_d0_1_2 : S128x1x7.ReducesTo [0, 1, 2] S_

variable [Facts]

def fn_part2 {F : FTy → Type} [FloatOps F] (main_arg7 : FVec F S128x1x7 .f32) (main_arg8 : FVec F S128x128 .f32) (main_v33 : IVec S_ 1) : IVec S_ 1 :=
  let main_v34 : FVec F S128x1x7 .f32 := Host.absf main_arg7
  let main_cst_12 : FVec F S_ .f32 := constant S_ .f32 0x7F800000#32
  let main_v35 : FVec F S128x1x7 .f32 := broadcastInDim S128x1x7 ![] bcast_S_S128x1x7 main_cst_12
  let main_v36 : IVec S128x1x7 1 := cmpf .olt main_v34 main_v35
  let main_c_13 : IVec S_ 1 := constantI S_ 1 1#1
  let main_v37 : IVec S_ 1 := (fun x v => Host.reduce IntOp.andi x v reducesTo_S128x1x7_S_d0_1_2 h_S_) main_v36 main_c_13
  let main_v38 : IVec S_ 1 := andi main_v33 main_v37
  let main_v39 : FVec F S128x128 .f32 := Host.absf main_arg8
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  main_v43

def fn_part1 {F : FTy → Type} [FloatOps F] (main_arg4 : FVec F S128 .f32) (main_arg5 : FVec F S128x128 .f32) (main_arg6 : FVec F S1x128x1x1 .f32) (main_arg7 : FVec F S128x1x7 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S1x128x1x1 .f32 := Host.absf main_arg6
  let main_cst_10 : FVec F S_ .f32 := constant S_ .f32 0x7F800000#32
  let main_v30 : FVec F S1x128x1x1 .f32 := broadcastInDim S1x128x1x1 ![] bcast_S_S1x128x1x1 main_cst_10
  let main_v31 : IVec S1x128x1x1 1 := cmpf .olt main_v29 main_v30
  let main_c_11 : IVec S_ 1 := constantI S_ 1 1#1
  let main_v32 : IVec S_ 1 := (fun x v => Host.reduce IntOp.andi x v reducesTo_S1x128x1x1_S_d0_1_2_3 h_S_) main_v31 main_c_11
  let main_v33 : IVec S_ 1 := andi main_v28 main_v32
  fn_part2 (F := F) main_arg7 main_arg8 main_v33

def fn {F : FTy → Type} [FloatOps F] (main_arg0 : FVec F S4x2048x128 .f32) (main_arg1 : FVec F S128x1x9 .f32) (main_arg2 : FVec F S128x128 .f32) (main_arg3 : FVec F S128 .f32) (main_arg4 : FVec F S128 .f32) (main_arg5 : FVec F S128x128 .f32) (main_arg6 : FVec F S1x128x1x1 .f32) (main_arg7 : FVec F S128x1x7 .f32) (main_arg8 : FVec F S128x128 .f32) : IVec S_ 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_c : IVec S_ 1 := constantI S_ 1 1#1
  let main_v3 : IVec S_ 1 := (fun x v => Host.reduce IntOp.andi x v reducesTo_S4x2048x128_S_d0_1_2 h_S_) main_v2 main_c
  let main_v4 : FVec F S128x1x9 .f32 := Host.absf main_arg1
  let main_cst_0 : FVec F S_ .f32 := constant S_ .f32 0x7F800000#32
  let main_v5 : FVec F S128x1x9 .f32 := broadcastInDim S128x1x9 ![] bcast_S_S128x1x9 main_cst_0
  let main_v6 : IVec S128x1x9 1 := cmpf .olt main_v4 main_v5
  let main_c_1 : IVec S_ 1 := constantI S_ 1 1#1
  let main_v7 : IVec S_ 1 := (fun x v => Host.reduce IntOp.andi x v reducesTo_S128x1x9_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_v13 main_v16
-- ==== Kernel.lean ====
abbrev S4x2048x128 : Shape := ⟨3, ![4, 2048, 128]⟩
abbrev S128x1x9 : Shape := ⟨3, ![128, 1, 9]⟩
abbrev S128x128 : Shape := ⟨2, ![128, 128]⟩
abbrev S128 : Shape := ⟨1, ![128]⟩
abbrev S1x128x1x1 : Shape := ⟨4, ![1, 128, 1, 1]⟩
abbrev S128x1x7 : Shape := ⟨3, ![128, 1, 7]⟩
abbrev S128x9 : Shape := ⟨2, ![128, 9]⟩
abbrev S9x128 : Shape := ⟨2, ![9, 128]⟩
abbrev S1x128 : Shape := ⟨2, ![1, 128]⟩
abbrev S_ : Shape := ⟨0, ![]⟩
abbrev S4x128 : Shape := ⟨2, ![4, 128]⟩
abbrev S128x7 : Shape := ⟨2, ![128, 7]⟩
abbrev S7x128 : Shape := ⟨2, ![7, 128]⟩
abbrev S7x128x1 : Shape := ⟨3, ![7, 128, 1]⟩
abbrev S1x128x128 : Shape := ⟨3, ![1, 128, 128]⟩
abbrev S7x128x128 : Shape := ⟨3, ![7, 128, 128]⟩
abbrev S896x128 : Shape := ⟨2, ![896, 128]⟩
abbrev S1168x128 : Shape := ⟨2, ![1168, 128]⟩
abbrev S2x2048x128 : Shape := ⟨3, ![2, 2048, 128]⟩
abbrev S1x2048x128 : Shape := ⟨3, ![1, 2048, 128]⟩
abbrev S2048x128 : Shape := ⟨2, ![2048, 128]⟩
abbrev S2176x128 : Shape := ⟨2, ![2176, 128]⟩
abbrev S128x256 : Shape := ⟨2, ![128, 256]⟩
abbrev S256x128 : Shape := ⟨2, ![256, 128]⟩
abbrev S3x128 : Shape := ⟨2, ![3, 128]⟩
abbrev S2054x128 : Shape := ⟨2, ![2054, 128]⟩
abbrev S1x256 : Shape := ⟨2, ![1, 256]⟩
abbrev S128x255 : Shape := ⟨2, ![128, 255]⟩
abbrev S128x1 : Shape := ⟨2, ![128, 1]⟩
abbrev S128x254 : Shape := ⟨2, ![128, 254]⟩
abbrev S128x2 : Shape := ⟨2, ![128, 2]⟩
abbrev S128x252 : Shape := ⟨2, ![128, 252]⟩
abbrev S128x4 : Shape := ⟨2, ![128, 4]⟩
abbrev S128x248 : Shape := ⟨2, ![128, 248]⟩
abbrev S128x8 : Shape := ⟨2, ![128, 8]⟩
abbrev S128x240 : Shape := ⟨2, ![128, 240]⟩
abbrev S128x16 : Shape := ⟨2, ![128, 16]⟩
abbrev S128x224 : Shape := ⟨2, ![128, 224]⟩
abbrev S128x32 : Shape := ⟨2, ![128, 32]⟩
abbrev S128x192 : Shape := ⟨2, ![128, 192]⟩
abbrev S128x64 : Shape := ⟨2, ![128, 64]⟩
abbrev S256 : Shape := ⟨1, ![256]⟩
abbrev S1 : Shape := ⟨1, ![1]⟩
abbrev S1x1 : Shape := ⟨2, ![1, 1]⟩
abbrev S192x1 : Shape := ⟨2, ![192, 1]⟩
abbrev S192x2048 : Shape := ⟨2, ![192, 2048]⟩
abbrev S192x128 : Shape := ⟨2, ![192, 128]⟩
abbrev S16x128 : Shape := ⟨2, ![16, 128]⟩
abbrev S64x128 : Shape := ⟨2, ![64, 128]⟩
abbrev S232x128 : Shape := ⟨2, ![232, 128]⟩
abbrev S224x128 : Shape := ⟨2, ![224, 128]⟩
abbrev S3x32 : Shape := ⟨2, ![3, 32]⟩
abbrev S32x128 : Shape := ⟨2, ![32, 128]⟩

abbrev nBuf : Space → Nat
  | .hbm => 29
  | .vmem => 5
  | .smem => 0
  | _ => 0

abbrev bufTy : (tb : Table) → Fin (tcTables nBuf tb) → BufTy
  | .hbm, ⟨0, _⟩ => ⟨S4x2048x128, .f32⟩
  | .hbm, ⟨1, _⟩ => ⟨S128x1x9, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128x128, .f32⟩
  | .hbm, ⟨6, _⟩ => ⟨S1x128x1x1, .f32⟩
  | .hbm, ⟨7, _⟩ => ⟨S128x1x7, .f32⟩
  | .hbm, ⟨8, _⟩ => ⟨S128x128, .f32⟩
  | .hbm, ⟨9, _⟩ => ⟨S128x9, .f32⟩
  | .hbm, ⟨10, _⟩ => ⟨S9x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S_, .f32⟩
  | .hbm, ⟨15, _⟩ => ⟨S4x128, .f32⟩
  | .hbm, ⟨16, _⟩ => ⟨S128x128, .f32⟩
  | .hbm, ⟨17, _⟩ => ⟨S128x128, .f32⟩
  | .hbm, ⟨18, _⟩ => ⟨S128x7, .f32⟩
  | .hbm, ⟨19, _⟩ => ⟨S7x128, .f32⟩
  | .hbm, ⟨20, _⟩ => ⟨S7x128x1, .f32⟩
  | .hbm, ⟨21, _⟩ => ⟨S128x128, .f32⟩
  | .hbm, ⟨22, _⟩ => ⟨S1x128x128, .f32⟩
  | .hbm, ⟨23, _⟩ => ⟨S7x128x128, .f32⟩
  | .hbm, ⟨24, _⟩ => ⟨S7x128x128, .f32⟩
  | .hbm, ⟨25, _⟩ => ⟨S7x128x128, .f32⟩
  | .hbm, ⟨26, _⟩ => ⟨S896x128, .f32⟩
  | .hbm, ⟨27, _⟩ => ⟨S1168x128, .f32⟩
  | .hbm, ⟨28, _⟩ => ⟨S4x2048x128, .f32⟩
  | .local _ .vmem, ⟨0, _⟩ => ⟨S2x2048x128, .f32⟩
  | .local _ .vmem, ⟨1, _⟩ => ⟨S2x2048x128, .f32⟩
  | .local _ .vmem, ⟨2, _⟩ => ⟨S1168x128, .f32⟩
  | .local _ .vmem, ⟨3, _⟩ => ⟨S2x2048x128, .f32⟩
  | .local _ .vmem, ⟨4, _⟩ => ⟨S2x2048x128, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1168x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "neg" => some ⊥
  | _ => none
-- ==== ReferenceIdeal.lean ====
abbrev S4x2048x128 : Shape := ⟨3, ![4, 2048, 128]⟩
abbrev S128x1x9 : Shape := ⟨3, ![128, 1, 9]⟩
abbrev S128x128 : Shape := ⟨2, ![128, 128]⟩
abbrev S128 : Shape := ⟨1, ![128]⟩
abbrev S1x128x1x1 : Shape := ⟨4, ![1, 128, 1, 1]⟩
abbrev S128x1x7 : Shape := ⟨3, ![128, 1, 7]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S4x2048x2048x128 : Shape := ⟨4, ![4, 2048, 2048, 128]⟩
abbrev S4x1x2048x128 : Shape := ⟨4, ![4, 1, 2048, 128]⟩
abbrev S4x2048 : Shape := ⟨2, ![4, 2048]⟩
abbrev S4x3 : Shape := ⟨2, ![4, 3]⟩
abbrev S4 : Shape := ⟨1, ![4]⟩
abbrev S4x1 : Shape := ⟨2, ![4, 1]⟩
abbrev S4x3x2048x128 : Shape := ⟨4, ![4, 3, 2048, 128]⟩
abbrev S12x2048x128 : Shape := ⟨3, ![12, 2048, 128]⟩
abbrev S12 : Shape := ⟨1, ![12]⟩
abbrev S64 : Shape := ⟨1, ![64]⟩
abbrev S1x64x1 : Shape := ⟨3, ![1, 64, 1]⟩
abbrev S1x1x128 : Shape := ⟨3, ![1, 1, 128]⟩
abbrev S12x1x1 : Shape := ⟨3, ![12, 1, 1]⟩
abbrev S12x64x1 : Shape := ⟨3, ![12, 64, 1]⟩
abbrev S12x64x128 : Shape := ⟨3, ![12, 64, 128]⟩
abbrev S12x1x128 : Shape := ⟨3, ![12, 1, 128]⟩
abbrev S12x64x128x1 : Shape := ⟨4, ![12, 64, 128, 1]⟩
abbrev S12x64x128x128 : Shape := ⟨4, ![12, 64, 128, 128]⟩
abbrev S12x128x64x128 : Shape := ⟨4, ![12, 128, 64, 128]⟩
abbrev S12x1x64x128 : Shape := ⟨4, ![12, 1, 64, 128]⟩
abbrev S12x1 : Shape := ⟨2, ![12, 1]⟩
abbrev S12x2048 : Shape := ⟨2, ![12, 2048]⟩
abbrev S12x128x64 : Shape := ⟨3, ![12, 128, 64]⟩
abbrev S12x128x72 : Shape := ⟨3, ![12, 128, 72]⟩
abbrev S128x1x1 : Shape := ⟨3, ![128, 1, 1]⟩
abbrev S1x128x1 : Shape := ⟨3, ![1, 128, 1]⟩
abbrev S128x12x64 : Shape := ⟨3, ![128, 12, 64]⟩
abbrev S12x32x256 : Shape := ⟨3, ![12, 32, 256]⟩
abbrev S12x32 : Shape := ⟨2, ![12, 32]⟩
abbrev S12x32x1 : Shape := ⟨3, ![12, 32, 1]⟩
abbrev S12x128 : Shape := ⟨2, ![12, 128]⟩
abbrev S12x128x1 : Shape := ⟨3, ![12, 128, 1]⟩
abbrev S12x128x64x1 : Shape := ⟨4, ![12, 128, 64, 1]⟩
abbrev S12x128x8192 : Shape := ⟨3, ![12, 128, 8192]⟩
abbrev S12x2048x1 : Shape := ⟨3, ![12, 2048, 1]⟩
abbrev S12x128x2048 : Shape := ⟨3, ![12, 128, 2048]⟩
abbrev S4x3x1x1 : Shape := ⟨4, ![4, 3, 1, 1]⟩
abbrev S4x128x2048 : Shape := ⟨3, ![4, 128, 2048]⟩
abbrev S4x128x2054 : Shape := ⟨3, ![4, 128, 2054]⟩
abbrev S128x4x2048 : Shape := ⟨3, ![128, 4, 2048]⟩
abbrev S4x128 : Shape := ⟨2, ![4, 128]⟩
abbrev S4x1x128 : Shape := ⟨3, ![4, 1, 128]⟩
abbrev S4x1x1 : Shape := ⟨3, ![4, 1, 1]⟩

abbrev nBuf : Space → Nat
  | .hbm => 541
  | .vmem => 0
  | .smem => 0
  | _ => 0

abbrev hbmTy0_0 (i : Nat) : BufTy := match i % 128 with
  | 0 => ⟨S4x2048x128, .f32⟩
  | 1 => ⟨S128x1x9, .f32⟩
  | 2 => ⟨S128x128, .f32⟩
  | 3 => ⟨S128, .f32⟩
  | 4 => ⟨S128, .f32⟩
  | 5 => ⟨S128x128, .f32⟩
  | 6 => ⟨S1x128x1x1, .f32⟩
  | 7 => ⟨S128x1x7, .f32⟩
  | 8 => ⟨S128x128, .f32⟩
  | 9 => ⟨S2048, .i32⟩
  | 10 => ⟨S2048x1, .i32⟩
  | 11 => ⟨S1x2048, .i32⟩
  | 12 => ⟨S2048x2048, .i32⟩
  | 13 => ⟨S2048x2048, .i32⟩
  | 14 => ⟨S2048x2048, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S2048x2048, .i32⟩
  | 22 => ⟨S2048x2048, .i32⟩
  | 23 => ⟨S_, .i32⟩
  | 24 => ⟨S2048x2048, .i32⟩
  | 25 => ⟨S2048x2048, .i1⟩
  | 26 => ⟨S_, .i32⟩
  | 27 => ⟨S2048x2048, .i32⟩
  | 28 => ⟨S2048x2048, .i1⟩
  | 29 => ⟨S_, .i32⟩
  | 30 => ⟨S_, .i1⟩
  | 31 => ⟨S2048x2048, .i1⟩
  | 32 => ⟨S2048x2048, .i1⟩
  | 33 => ⟨S2048x2048, .i1⟩
  | 34 => ⟨S2048x2048, .i32⟩
  | 35 => ⟨S2048x2048, .i32⟩
  | 36 => ⟨S2048x2048, .i32⟩
  | 37 => ⟨S2048x2048x1, .i32⟩
  | 38 => ⟨S4x2048x2048x128, .f32⟩
  | 39 => ⟨S4x1x2048x128, .f32⟩
  | 40 => ⟨S4x2048x2048x128, .f32⟩
  | 41 => ⟨S4x2048x2048x128, .f32⟩
  | 42 => ⟨S_, .f32⟩
  | 43 => ⟨S4x2048x128, .f32⟩
  | 44 => ⟨S_, .f32⟩
  | 45 => ⟨S4x2048, .f32⟩
  | 46 => ⟨S_, .f32⟩
  | 47 => ⟨S4x2048, .f32⟩
  | 48 => ⟨S4x2048, .f32⟩
  | 49 => ⟨S2048, .i32⟩
  | 50 => ⟨S_, .i32⟩
  | 51 => ⟨S2048, .i32⟩
  | 52 => ⟨S2048, .i1⟩
  | 53 => ⟨S_, .i32⟩
  | 54 => ⟨S2048, .i32⟩
  | 55 => ⟨S2048, .i1⟩
  | 56 => ⟨S2048, .i1⟩
  | 57 => ⟨S1x2048, .i1⟩
  | 58 => ⟨S_, .f32⟩
  | 59 => ⟨S_, .f32⟩
  | 60 => ⟨S4x2048, .i1⟩
  | 61 => ⟨S4x2048, .f32⟩
  | 62 => ⟨S4x2048, .f32⟩
  | 63 => ⟨S4x3, .f32⟩
  | 64 => ⟨S4x3, .i32⟩
  | 65 => ⟨S_, .f32⟩
  | 66 => ⟨S4, .f32⟩
  | 67 => ⟨S_, .f32⟩
  | 68 => ⟨S4, .f32⟩
  | 69 => ⟨S4, .f32⟩
  | 70 => ⟨S4x1, .f32⟩
  | 71 => ⟨S4x3, .f32⟩
  | 72 => ⟨S4x3, .f32⟩
  | 73 => ⟨S4x3, .f32⟩
  | 74 => ⟨S_, .f32⟩
  | 75 => ⟨S4, .f32⟩
  | 76 => ⟨S4x1, .f32⟩
  | 77 => ⟨S4x3, .f32⟩
  | 78 => ⟨S4x3, .f32⟩
  | 79 => ⟨S4x3x2048x128, .f32⟩
  | 80 => ⟨S12x2048x128, .f32⟩
  | 81 => ⟨S12, .i32⟩
  | 82 => ⟨S_, .i32⟩
  | 83 => ⟨S_, .i32⟩
  | 84 => ⟨S12, .i32⟩
  | 85 => ⟨S12, .i32⟩
  | 86 => ⟨S_, .i32⟩
  | 87 => ⟨S12, .i32⟩
  | 88 => ⟨S12, .i32⟩
  | 89 => ⟨S_, .i32⟩
  | 90 => ⟨S12, .i32⟩
  | 91 => ⟨S12, .i32⟩
  | 92 => ⟨S12, .i32⟩
  | 93 => ⟨S12, .i32⟩
  | 94 => ⟨S12, .i32⟩
  | 95 => ⟨S12, .i1⟩
  | 96 => ⟨S12, .i32⟩
  | 97 => ⟨S_, .i32⟩
  | 98 => ⟨S12, .i32⟩
  | 99 => ⟨S12, .i1⟩
  | 100 => ⟨S12, .i1⟩
  | 101 => ⟨S_, .i32⟩
  | 102 => ⟨S12, .i32⟩
  | 103 => ⟨S12, .i32⟩
  | 104 => ⟨S12, .i32⟩
  | 105 => ⟨S12, .i32⟩
  | 106 => ⟨S64, .i32⟩
  | 107 => ⟨S1x64x1, .i32⟩
  | 108 => ⟨S128, .i32⟩
  | 109 => ⟨S1x1x128, .i32⟩
  | 110 => ⟨S12x1x1, .i32⟩
  | 111 => ⟨S12x64x1, .i32⟩
  | 112 => ⟨S12x64x1, .i32⟩
  | 113 => ⟨S12x64x1, .i32⟩
  | 114 => ⟨S12x64x128, .i32⟩
  | 115 => ⟨S12x64x128, .i32⟩
  | 116 => ⟨S12x64x128, .i32⟩
  | 117 => ⟨S12x1x1, .i32⟩
  | 118 => ⟨S12x1x128, .i32⟩
  | 119 => ⟨S12x1x128, .i32⟩
  | 120 => ⟨S12x1x128, .i1⟩
  | 121 => ⟨S12x1x1, .i32⟩
  | 122 => ⟨S12x64x128, .i32⟩
  | 123 => ⟨S12x64x128, .i1⟩
  | 124 => ⟨S12x64x128, .i1⟩
  | 125 => ⟨S12x64x128, .i1⟩
  | 126 => ⟨S_, .i32⟩
  | 127 => ⟨S_, .i32⟩
  | _ => ⟨S4x2048x128, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S12x64x128, .i32⟩
  | 5 => ⟨S12x64x128, .i32⟩
  | 6 => ⟨S_, .i32⟩
  | 7 => ⟨S12x64x128, .i32⟩
  | 8 => ⟨S12x64x128, .i1⟩
  | 9 => ⟨S_, .i32⟩
  | 10 => ⟨S12x64x128, .i32⟩
  | 11 => ⟨S12x64x128, .i1⟩
  | 12 => ⟨S_, .i32⟩
  | 13 => ⟨S_, .i1⟩
  | 14 => ⟨S12x64x128, .i1⟩
  | 15 => ⟨S12x64x128, .i1⟩
  | 16 => ⟨S12x64x128, .i1⟩
  | 17 => ⟨S12x64x128, .i32⟩
  | 18 => ⟨S12x64x128, .i32⟩
  | 19 => ⟨S12x64x128, .i32⟩
  | 20 => ⟨S_, .i32⟩
  | 21 => ⟨S12x64x128, .i32⟩
  | 22 => ⟨S12x64x128, .i1⟩
  | 23 => ⟨S_, .i32⟩
  | 24 => ⟨S12x64x128, .i32⟩
  | 25 => ⟨S12x64x128, .i32⟩
  | 26 => ⟨S12x64x128, .i32⟩
  | 27 => ⟨S12x64x128x1, .i32⟩
  | 28 => ⟨S12x64x128x128, .f32⟩
  | 29 => ⟨S12x64x128x1, .i1⟩
  | 30 => ⟨S12x64x128x1, .f32⟩
  | 31 => ⟨S12x64x128x128, .f32⟩
  | 32 => ⟨S12x64x128x128, .f32⟩
  | 33 => ⟨S12x128x64x128, .f32⟩
  | 34 => ⟨S12x1x64x128, .i1⟩
  | 35 => ⟨S12x1x64x128, .f32⟩
  | 36 => ⟨S2048, .i32⟩
  | 37 => ⟨S1x2048, .i32⟩
  | 38 => ⟨S12x1, .i32⟩
  | 39 => ⟨S12x2048, .i32⟩
  | 40 => ⟨S12x2048, .i32⟩
  | 41 => ⟨S12x2048, .i32⟩
  | 42 => ⟨S1x2048, .i32⟩
  | 43 => ⟨S12x1, .i32⟩
  | 44 => ⟨S12x2048, .i32⟩
  | 45 => ⟨S12x2048, .i32⟩
  | 46 => ⟨S12x2048, .i1⟩
  | 47 => ⟨S12x2048, .i32⟩
  | 48 => ⟨S12x2048, .i32⟩
  | 49 => ⟨S12x2048, .i32⟩
  | 50 => ⟨S_, .i32⟩
  | 51 => ⟨S12x2048, .i32⟩
  | 52 => ⟨S12x2048, .i1⟩
  | 53 => ⟨S12x2048, .i1⟩
  | 54 => ⟨S_, .i32⟩
  | 55 => ⟨S12x2048, .i32⟩
  | 56 => ⟨S12x2048, .i32⟩
  | 57 => ⟨S12x2048, .i32⟩
  | 58 => ⟨S_, .i32⟩
  | 59 => ⟨S_, .i32⟩
  | 60 => ⟨S_, .i32⟩
  | 61 => ⟨S12x2048, .i32⟩
  | 62 => ⟨S12x2048, .i32⟩
  | 63 => ⟨S_, .i32⟩
  | 64 => ⟨S12x2048, .i32⟩
  | 65 => ⟨S12x2048, .i32⟩
  | 66 => ⟨S12x1, .i32⟩
  | 67 => ⟨S12x2048, .i32⟩
  | 68 => ⟨S12x2048, .i32⟩
  | 69 => ⟨S12x2048, .i32⟩
  | 70 => ⟨S1x2048, .i32⟩
  | 71 => ⟨S12x1, .i32⟩
  | 72 => ⟨S12x2048, .i32⟩
  | 73 => ⟨S12x2048, .i32⟩
  | 74 => ⟨S12x2048, .i1⟩
  | 75 => ⟨S12x2048, .i32⟩
  | 76 => ⟨S12x2048, .i32⟩
  | 77 => ⟨S12x2048, .i32⟩
  | 78 => ⟨S_, .i32⟩
  | 79 => ⟨S12x2048, .i32⟩
  | 80 => ⟨S12x2048, .i1⟩
  | 81 => ⟨S12x2048, .i1⟩
  | 82 => ⟨S_, .i32⟩
  | 83 => ⟨S12x2048, .i32⟩
  | 84 => ⟨S12x2048, .i32⟩
  | 85 => ⟨S12x2048, .i32⟩
  | 86 => ⟨S12x1, .i32⟩
  | 87 => ⟨S12x2048, .i32⟩
  | 88 => ⟨S12x2048, .i32⟩
  | 89 => ⟨S12x2048, .i32⟩
  | 90 => ⟨S12x2048, .i32⟩
  | 91 => ⟨S_, .i32⟩
  | 92 => ⟨S_, .i32⟩
  | 93 => ⟨S_, .i32⟩
  | 94 => ⟨S12x2048, .i32⟩
  | 95 => ⟨S12x2048, .i32⟩
  | 96 => ⟨S_, .i32⟩
  | 97 => ⟨S12x2048, .i32⟩
  | 98 => ⟨S12x2048, .i32⟩
  | 99 => ⟨S_, .f32⟩
  | 100 => ⟨S12x128x64, .f32⟩
  | 101 => ⟨S_, .f32⟩
  | 102 => ⟨S12x128x64, .f32⟩
  | 103 => ⟨S12x128x64, .f32⟩
  | 104 => ⟨S_, .i32⟩
  | 105 => ⟨S_, .f32⟩
  | 106 => ⟨S12x128x72, .f32⟩
  | 107 => ⟨S_, .f32⟩
  | 108 => ⟨S12x128x64, .f32⟩
  | 109 => ⟨S12x128x64, .f32⟩
  | 110 => ⟨S128x1x1, .f32⟩
  | 111 => ⟨S128, .f32⟩
  | 112 => ⟨S1x128x1, .f32⟩
  | 113 => ⟨S12x128x64, .f32⟩
  | 114 => ⟨S12x128x64, .f32⟩
  | 115 => ⟨S12x128x64, .f32⟩
  | 116 => ⟨S12x128x64, .f32⟩
  | 117 => ⟨S128x1x1, .f32⟩
  | 118 => ⟨S128, .f32⟩
  | 119 => ⟨S1x128x1, .f32⟩
  | 120 => ⟨S12x128x64, .f32⟩
  | 121 => ⟨S12x128x64, .f32⟩
  | 122 => ⟨S12x128x64, .f32⟩
  | 123 => ⟨S12x128x64, .f32⟩
  | 124 => ⟨S128x1x1, .f32⟩
  | 125 => ⟨S128, .f32⟩
  | 126 => ⟨S1x128x1, .f32⟩
  | 127 => ⟨S12x128x64, .f32⟩
  | _ => ⟨S4x2048x128, .f32⟩

abbrev hbmTy0_2 (i : Nat) : BufTy := match i % 128 with
  | 0 => ⟨S12x128x64, .f32⟩
  | 1 => ⟨S12x128x64, .f32⟩
  | 2 => ⟨S12x128x64, .f32⟩
  | 3 => ⟨S128x1x1, .f32⟩
  | 4 => ⟨S128, .f32⟩
  | 5 => ⟨S1x128x1, .f32⟩
  | 6 => ⟨S12x128x64, .f32⟩
  | 7 => ⟨S12x128x64, .f32⟩
  | 8 => ⟨S12x128x64, .f32⟩
  | 9 => ⟨S12x128x64, .f32⟩
  | 10 => ⟨S128x1x1, .f32⟩
  | 11 => ⟨S128, .f32⟩
  | 12 => ⟨S1x128x1, .f32⟩
  | 13 => ⟨S12x128x64, .f32⟩
  | 14 => ⟨S12x128x64, .f32⟩
  | 15 => ⟨S12x128x64, .f32⟩
  | 16 => ⟨S12x128x64, .f32⟩
  | 17 => ⟨S128x1x1, .f32⟩
  | 18 => ⟨S128, .f32⟩
  | 19 => ⟨S1x128x1, .f32⟩
  | 20 => ⟨S12x128x64, .f32⟩
  | 21 => ⟨S12x128x64, .f32⟩
  | 22 => ⟨S12x128x64, .f32⟩
  | 23 => ⟨S12x128x64, .f32⟩
  | 24 => ⟨S128x1x1, .f32⟩
  | 25 => ⟨S128, .f32⟩
  | 26 => ⟨S1x128x1, .f32⟩
  | 27 => ⟨S12x128x64, .f32⟩
  | 28 => ⟨S12x128x64, .f32⟩
  | 29 => ⟨S12x128x64, .f32⟩
  | 30 => ⟨S12x128x64, .f32⟩
  | 31 => ⟨S128x1x1, .f32⟩
  | 32 => ⟨S128, .f32⟩
  | 33 => ⟨S1x128x1, .f32⟩
  | 34 => ⟨S12x128x64, .f32⟩
  | 35 => ⟨S12x128x64, .f32⟩
  | 36 => ⟨S12x128x64, .f32⟩
  | 37 => ⟨S12x128x64, .f32⟩
  | 38 => ⟨S128x1x1, .f32⟩
  | 39 => ⟨S128, .f32⟩
  | 40 => ⟨S1x128x1, .f32⟩
  | 41 => ⟨S12x128x64, .f32⟩
  | 42 => ⟨S12x128x64, .f32⟩
  | 43 => ⟨S12x128x64, .f32⟩
  | 44 => ⟨S128x12x64, .f32⟩
  | 45 => ⟨S12x128x64, .f32⟩
  | 46 => ⟨S12x32x256, .f32⟩
  | 47 => ⟨S_, .f32⟩
  | 48 => ⟨S12x32, .f32⟩
  | 49 => ⟨S12x32x1, .f32⟩
  | 50 => ⟨S_, .f32⟩
  | 51 => ⟨S12x32x1, .f32⟩
  | 52 => ⟨S12x32x1, .f32⟩
  | 53 => ⟨S12x32x256, .f32⟩
  | 54 => ⟨S12x32x256, .f32⟩
  | 55 => ⟨S12x32x256, .f32⟩
  | 56 => ⟨S_, .f32⟩
  | 57 => ⟨S12x32, .f32⟩
  | 58 => ⟨S12x32x1, .f32⟩
  | 59 => ⟨S_, .f32⟩
  | 60 => ⟨S12x32x1, .f32⟩
  | 61 => ⟨S12x32x1, .f32⟩
  | 62 => ⟨S12x32x256, .f32⟩
  | 63 => ⟨S12x32x256, .f32⟩
  | 64 => ⟨S_, .f32⟩
  | 65 => ⟨S12x32x1, .f32⟩
  | 66 => ⟨S12x32x1, .f32⟩
  | 67 => ⟨S12x32x1, .f32⟩
  | 68 => ⟨S12x32x256, .f32⟩
  | 69 => ⟨S12x32x256, .f32⟩
  | 70 => ⟨S12x128x64, .f32⟩
  | 71 => ⟨S1x128x1, .f32⟩
  | 72 => ⟨S12x128x64, .f32⟩
  | 73 => ⟨S12x128x64, .f32⟩
  | 74 => ⟨S1x128x1, .f32⟩
  | 75 => ⟨S12x128x64, .f32⟩
  | 76 => ⟨S12x128x64, .f32⟩
  | 77 => ⟨S12x128x64, .f32⟩
  | 78 => ⟨S12x128x64, .f32⟩
  | 79 => ⟨S_, .f32⟩
  | 80 => ⟨S12x128x64, .f32⟩
  | 81 => ⟨S12x128x64, .f32⟩
  | 82 => ⟨S12x128x64, .f32⟩
  | 83 => ⟨S_, .f32⟩
  | 84 => ⟨S12x128x64, .f32⟩
  | 85 => ⟨S12x128x64, .f32⟩
  | 86 => ⟨S12x128x64, .f32⟩
  | 87 => ⟨S_, .f32⟩
  | 88 => ⟨S12x128x64, .f32⟩
  | 89 => ⟨S12x128x64, .f32⟩
  | 90 => ⟨S_, .f32⟩
  | 91 => ⟨S12x128x64, .f32⟩
  | 92 => ⟨S12x128x64, .f32⟩
  | 93 => ⟨S12x128x64, .f32⟩
  | 94 => ⟨S_, .f32⟩
  | 95 => ⟨S12x128, .f32⟩
  | 96 => ⟨S_, .f32⟩
  | 97 => ⟨S12x128, .f32⟩
  | 98 => ⟨S12x128, .f32⟩
  | 99 => ⟨S12x128, .f32⟩
  | 100 => ⟨S12x128, .f32⟩
  | 101 => ⟨S12x128, .f32⟩
  | 102 => ⟨S_, .f32⟩
  | 103 => ⟨S12x128, .f32⟩
  | 104 => ⟨S12x128, .f32⟩
  | 105 => ⟨S_, .f32⟩
  | 106 => ⟨S12x128, .f32⟩
  | 107 => ⟨S12x128, .f32⟩
  | 108 => ⟨S12x128x1, .f32⟩
  | 109 => ⟨S12x128x64, .f32⟩
  | 110 => ⟨S12x128x64, .f32⟩
  | 111 => ⟨S12x128x64x1, .f32⟩
  | 112 => ⟨S12x128x64x128, .f32⟩
  | 113 => ⟨S12x128x64x128, .f32⟩
  | 114 => ⟨S12x128x64x128, .f32⟩
  | 115 => ⟨S12x128x64x128, .f32⟩
  | 116 => ⟨S12x128x64x128, .f32⟩
  | 117 => ⟨S12x128x64x128, .f32⟩
  | 118 => ⟨S12x128x8192, .f32⟩
  | 119 => ⟨S_, .i32⟩
  | 120 => ⟨S12x2048, .i32⟩
  | 121 => ⟨S12x2048, .i32⟩
  | 122 => ⟨S12x2048, .i32⟩
  | 123 => ⟨S_, .i32⟩
  | 124 => ⟨S_, .i32⟩
  | 125 => ⟨S_, .i32⟩
  | 126 => ⟨S12x2048, .i32⟩
  | 127 => ⟨S12x2048, .i32⟩
  | _ => ⟨S4x2048x128, .f32⟩

abbrev hbmTy0_3 (i : Nat) : BufTy := match i % 128 with
  | 0 => ⟨S_, .i32⟩
  | 1 => ⟨S12x2048, .i32⟩
  | 2 => ⟨S12x2048, .i32⟩
  | 3 => ⟨S12x2048x1, .i32⟩
  | 4 => ⟨S12x128x2048, .f32⟩
  | 5 => ⟨S12x2048x128, .f32⟩
  | 6 => ⟨S4x3x2048x128, .f32⟩
  | 7 => ⟨S4x3x1x1, .f32⟩
  | 8 => ⟨S4x3x2048x128, .f32⟩
  | 9 => ⟨S4x3x2048x128, .f32⟩
  | 10 => ⟨S_, .f32⟩
  | 11 => ⟨S4x2048x128, .f32⟩
  | 12 => ⟨S4x128x2048, .f32⟩
  | 13 => ⟨S_, .i32⟩
  | 14 => ⟨S_, .f32⟩
  | 15 => ⟨S4x128x2054, .f32⟩
  | 16 => ⟨S_, .f32⟩
  | 17 => ⟨S4x128x2048, .f32⟩
  | 18 => ⟨S4x128x2048, .f32⟩
  | 19 => ⟨S128x1x1, .f32⟩
  | 20 => ⟨S128, .f32⟩
  | 21 => ⟨S1x128x1, .f32⟩
  | 22 => ⟨S4x128x2048, .f32⟩
  | 23 => ⟨S4x128x2048, .f32⟩
  | 24 => ⟨S4x128x2048, .f32⟩
  | 25 => ⟨S4x128x2048, .f32⟩
  | 26 => ⟨S128x1x1, .f32⟩
  | 27 => ⟨S128, .f32⟩
  | 28 => ⟨S1x128x1, .f32⟩
  | 29 => ⟨S4x128x2048, .f32⟩
  | 30 => ⟨S4x128x2048, .f32⟩
  | 31 => ⟨S4x128x2048, .f32⟩
  | 32 => ⟨S4x128x2048, .f32⟩
  | 33 => ⟨S128x1x1, .f32⟩
  | 34 => ⟨S128, .f32⟩
  | 35 => ⟨S1x128x1, .f32⟩
  | 36 => ⟨S4x128x2048, .f32⟩
  | 37 => ⟨S4x128x2048, .f32⟩
  | 38 => ⟨S4x128x2048, .f32⟩
  | 39 => ⟨S4x128x2048, .f32⟩
  | 40 => ⟨S128x1x1, .f32⟩
  | 41 => ⟨S128, .f32⟩
  | 42 => ⟨S1x128x1, .f32⟩
  | 43 => ⟨S4x128x2048, .f32⟩
  | 44 => ⟨S4x128x2048, .f32⟩
  | 45 => ⟨S4x128x2048, .f32⟩
  | 46 => ⟨S4x128x2048, .f32⟩
  | 47 => ⟨S128x1x1, .f32⟩
  | 48 => ⟨S128, .f32⟩
  | 49 => ⟨S1x128x1, .f32⟩
  | 50 => ⟨S4x128x2048, .f32⟩
  | 51 => ⟨S4x128x2048, .f32⟩
  | 52 => ⟨S4x128x2048, .f32⟩
  | 53 => ⟨S4x128x2048, .f32⟩
  | 54 => ⟨S128x1x1, .f32⟩
  | 55 => ⟨S128, .f32⟩
  | 56 => ⟨S1x128x1, .f32⟩
  | 57 => ⟨S4x128x2048, .f32⟩
  | 58 => ⟨S4x128x2048, .f32⟩
  | 59 => ⟨S4x128x2048, .f32⟩
  | 60 => ⟨S4x128x2048, .f32⟩
  | 61 => ⟨S128x1x1, .f32⟩
  | 62 => ⟨S128, .f32⟩
  | 63 => ⟨S1x128x1, .f32⟩
  | 64 => ⟨S4x128x2048, .f32⟩
  | 65 => ⟨S4x128x2048, .f32⟩
  | 66 => ⟨S4x128x2048, .f32⟩
  | 67 => ⟨S128x4x2048, .f32⟩
  | 68 => ⟨S4x128x2048, .f32⟩
  | 69 => ⟨S4x128x2048, .f32⟩
  | 70 => ⟨S4x128x2048, .f32⟩
  | 71 => ⟨S_, .f32⟩
  | 72 => ⟨S4x128x2048, .f32⟩
  | 73 => ⟨S4x128x2048, .f32⟩
  | 74 => ⟨S4x128x2048, .f32⟩
  | 75 => ⟨S_, .f32⟩
  | 76 => ⟨S4x128x2048, .f32⟩
  | 77 => ⟨S4x128x2048, .f32⟩
  | 78 => ⟨S4x128x2048, .f32⟩
  | 79 => ⟨S_, .f32⟩
  | 80 => ⟨S4x128x2048, .f32⟩
  | 81 => ⟨S4x128x2048, .f32⟩
  | 82 => ⟨S_, .f32⟩
  | 83 => ⟨S4x128x2048, .f32⟩
  | 84 => ⟨S4x128x2048, .f32⟩
  | 85 => ⟨S4x128x2048, .f32⟩
  | 86 => ⟨S4x2048x128, .f32⟩
  | 87 => ⟨S4x2048x128, .f32⟩
  | 88 => ⟨S_, .f32⟩
  | 89 => ⟨S4x128, .f32⟩
  | 90 => ⟨S4x1x128, .f32⟩
  | 91 => ⟨S4x2048x128, .f32⟩
  | 92 => ⟨S_, .f32⟩
  | 93 => ⟨S4x128, .f32⟩
  | 94 => ⟨S4x1x128, .f32⟩
  | 95 => ⟨S_, .f32⟩
  | 96 => ⟨S4x1x128, .f32⟩
  | 97 => ⟨S4x1x128, .f32⟩
  | 98 => ⟨S4x1x128, .f32⟩
  | 99 => ⟨S4x2048x128, .f32⟩
  | 100 => ⟨S4x2048x128, .f32⟩
  | 101 => ⟨S4x2048x128, .f32⟩
  | 102 => ⟨S_, .f32⟩
  | 103 => ⟨S4x3, .f32⟩
  | 104 => ⟨S4x3, .f32⟩
  | 105 => ⟨S4x3, .f32⟩
  | 106 => ⟨S4x3, .f32⟩
  | 107 => ⟨S_, .f32⟩
  | 108 => ⟨S4, .f32⟩
  | 109 => ⟨S4, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S_, .f32⟩
  | 122 => ⟨S_, .f32⟩
  | 123 => ⟨S_, .f32⟩
  | 124 => ⟨S4, .f32⟩
  | 125 => ⟨S4, .f32⟩
  | 126 => ⟨S_, .f32⟩
  | 127 => ⟨S4, .f32⟩
  | _ => ⟨S4x2048x128, .f32⟩

abbrev hbmTy0_4 (i : Nat) : BufTy := match i % 128 with
  | 0 => ⟨S4, .f32⟩
  | 1 => ⟨S_, .f32⟩
  | 2 => ⟨S4, .f32⟩
  | 3 => ⟨S4, .f32⟩
  | 4 => ⟨S_, .f32⟩
  | 5 => ⟨S4, .f32⟩
  | 6 => ⟨S4, .f32⟩
  | 7 => ⟨S4, .f32⟩
  | 8 => ⟨S4, .f32⟩
  | 9 => ⟨S_, .f32⟩
  | 10 => ⟨S4, .f32⟩
  | 11 => ⟨S4, .f32⟩
  | 12 => ⟨S_, .f32⟩
  | 13 => ⟨S4, .f32⟩
  | 14 => ⟨S4, .f32⟩
  | 15 => ⟨S4x1x1, .f32⟩
  | 16 => ⟨S4x2048x128, .f32⟩
  | 17 => ⟨S4x2048x128, .f32⟩
  | 18 => ⟨S_, .f32⟩
  | 19 => ⟨S4, .f32⟩
  | 20 => ⟨S4, .f32⟩
  | 21 => ⟨S4x1x1, .f32⟩
  | 22 => ⟨S_, .f32⟩
  | 23 => ⟨S4x1x1, .f32⟩
  | 24 => ⟨S4x1x1, .f32⟩
  | 25 => ⟨S4x2048x128, .f32⟩
  | 26 => ⟨S4x2048x128, .f32⟩
  | 27 => ⟨S4x2048x128, .f32⟩
  | 28 => ⟨S4x2048x128, .f32⟩
  | _ => ⟨S4x2048x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x2048x128, .f32⟩

abbrev bufTy : (tb : Table) → Fin (tcTables nBuf tb) → BufTy
  | .hbm, ⟨i, _⟩ => hbmTy i
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_c_1 : Ref sig .tc := ⟨.hbm, 23, rfl⟩
abbrev main_call0_v5 : Ref sig .tc := ⟨.hbm, 24, rfl⟩
abbrev main_call0_v6 : Ref sig .tc := ⟨.hbm, 25, rfl⟩
abbrev main_call0_c_2 : Ref sig .tc := ⟨.hbm, 26, rfl⟩
abbrev main_call0_v7 : Ref sig .tc := ⟨.hbm, 27, rfl⟩
abbrev main_call0_v8 : Ref sig .tc := ⟨.hbm, 28, rfl⟩
abbrev main_call0_c_3 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_v6 : Ref sig .tc := ⟨.hbm, 36, rfl⟩
abbrev main_call1_v0 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_cst : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_cst_1 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_2 : Ref sig .tc := ⟨.hbm, 50, rfl⟩
abbrev main_v16 : Ref sig .tc := ⟨.hbm, 51, rfl⟩
abbrev main_v17 : Ref sig .tc := ⟨.hbm, 52, rfl⟩
abbrev main_c_3 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_4 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v22 : Ref sig .tc := ⟨.hbm, 62, rfl⟩
abbrev main_values : Ref sig .tc := ⟨.hbm, 63, rfl⟩
abbrev main_indices : Ref sig .tc := ⟨.hbm, 64, rfl⟩
abbrev main_cst_5 : Ref sig .tc := ⟨.hbm, 65, rfl⟩
abbrev main_v23 : Ref sig .tc := ⟨.hbm, 66, rfl⟩
abbrev main_cst_6 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_cst_7 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_c_8 : Ref sig .tc := ⟨.hbm, 82, rfl⟩
abbrev main_call3_v0 : Ref sig .tc := ⟨.hbm, 83, rfl⟩
abbrev main_call3_v1 : Ref sig .tc := ⟨.hbm, 84, rfl⟩
abbrev main_v37 : Ref sig .tc := ⟨.hbm, 85, rfl⟩
abbrev main_c_9 : Ref sig .tc := ⟨.hbm, 86, rfl⟩
abbrev main_v38 : Ref sig .tc := ⟨.hbm, 87, rfl⟩
abbrev main_v39 : Ref sig .tc := ⟨.hbm, 88, rfl⟩
abbrev main_c_10 : Ref sig .tc := ⟨.hbm, 89, rfl⟩
abbrev main_v40 : Ref sig .tc := ⟨.hbm, 90, rfl⟩
abbrev main_v41 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_call4_c : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_c_0 : Ref sig .tc := ⟨.hbm, 101, rfl⟩
abbrev main_call4_v8 : Ref sig .tc := ⟨.hbm, 102, rfl⟩
abbrev main_call4_v9 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_v59 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_c_11 : Ref sig .tc := ⟨.hbm, 126, rfl⟩
abbrev main_call5_v0 : Ref sig .tc := ⟨.hbm, 127, rfl⟩
abbrev main_call5_c : Ref sig .tc := ⟨.hbm, 128, rfl⟩
abbrev main_call5_v1 : Ref sig .tc := ⟨.hbm, 129, rfl⟩
abbrev main_call5_c_0 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_c_1 : Ref sig .tc := ⟨.hbm, 134, rfl⟩
abbrev main_call5_v5 : Ref sig .tc := ⟨.hbm, 135, rfl⟩
abbrev main_call5_v6 : Ref sig .tc := ⟨.hbm, 136, rfl⟩
abbrev main_call5_c_2 : Ref sig .tc := ⟨.hbm, 137, rfl⟩
abbrev main_call5_v7 : Ref sig .tc := ⟨.hbm, 138, rfl⟩
abbrev main_call5_v8 : Ref sig .tc := ⟨.hbm, 139, rfl⟩
abbrev main_call5_c_3 : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_v12 : Ref sig .tc := ⟨.hbm, 144, rfl⟩
abbrev main_call5_v13 : Ref sig .tc := ⟨.hbm, 145, rfl⟩
abbrev main_call5_v14 : Ref sig .tc := ⟨.hbm, 146, rfl⟩
abbrev main_v64 : Ref sig .tc := ⟨.hbm, 147, rfl⟩
abbrev main_c_12 : Ref sig .tc := ⟨.hbm, 148, rfl⟩
abbrev main_v65 : Ref sig .tc := ⟨.hbm, 149, rfl⟩
abbrev main_v66 : Ref sig .tc := ⟨.hbm, 150, rfl⟩
abbrev main_c_13 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_call7_v0 : Ref sig .tc := ⟨.hbm, 155, rfl⟩
abbrev main_v70 : Ref sig .tc := ⟨.hbm, 156, rfl⟩
abbrev main_v71 : Ref sig .tc := ⟨.hbm, 157, rfl⟩
abbrev main_v72 : Ref sig .tc := ⟨.hbm, 158, rfl⟩
abbrev main_v73 : Ref sig .tc := ⟨.hbm, 159, rfl⟩
abbrev main_v74 : Ref sig .tc := ⟨.hbm, 160, rfl⟩
abbrev main_v75 : Ref sig .tc := ⟨.hbm, 161, rfl⟩
abbrev main_v76 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_call8_v0 : Ref sig .tc := ⟨.hbm, 167, rfl⟩
abbrev main_call8_v1 : Ref sig .tc := ⟨.hbm, 168, rfl⟩
abbrev main_call8_v2 : Ref sig .tc := ⟨.hbm, 169, rfl⟩
abbrev main_call8_v3 : Ref sig .tc := ⟨.hbm, 170, rfl⟩
abbrev main_call8_v4 : Ref sig .tc := ⟨.hbm, 171, rfl⟩
abbrev main_call8_v5 : Ref sig .tc := ⟨.hbm, 172, rfl⟩
abbrev main_call8_v6 : Ref sig .tc := ⟨.hbm, 173, rfl⟩
abbrev main_call8_v7 : Ref sig .tc := ⟨.hbm, 174, rfl⟩
abbrev main_call8_v8 : Ref sig .tc := ⟨.hbm, 175, rfl⟩
abbrev main_call8_v9 : Ref sig .tc := ⟨.hbm, 176, rfl⟩
abbrev main_call8_v10 : Ref sig .tc := ⟨.hbm, 177, rfl⟩
abbrev main_call8_c : Ref sig .tc := ⟨.hbm, 178, rfl⟩
abbrev main_call8_v11 : Ref sig .tc := ⟨.hbm, 179, rfl⟩
abbrev main_call8_v12 : Ref sig .tc := ⟨.hbm, 180, rfl⟩
abbrev main_call8_v13 : Ref sig .tc := ⟨.hbm, 181, rfl⟩
abbrev main_call8_c_0 : Ref sig .tc := ⟨.hbm, 182, rfl⟩
abbrev main_call8_v14 : Ref sig .tc := ⟨.hbm, 183, rfl⟩
abbrev main_call8_v15 : Ref sig .tc := ⟨.hbm, 184, rfl⟩
abbrev main_v81 : Ref sig .tc := ⟨.hbm, 185, rfl⟩
abbrev main_c_14 : Ref sig .tc := ⟨.hbm, 186, rfl⟩
abbrev main_c_15 : Ref sig .tc := ⟨.hbm, 187, rfl⟩
abbrev main_call9_v0 : Ref sig .tc := ⟨.hbm, 188, rfl⟩
abbrev main_call9_v1 : Ref sig .tc := ⟨.hbm, 189, rfl⟩
abbrev main_call9_v2 : Ref sig .tc := ⟨.hbm, 190, rfl⟩
abbrev main_call9_v3 : Ref sig .tc := ⟨.hbm, 191, rfl⟩
abbrev main_call9_v4 : Ref sig .tc := ⟨.hbm, 192, rfl⟩
abbrev main_v82 : Ref sig .tc := ⟨.hbm, 193, rfl⟩
abbrev main_v83 : Ref sig .tc := ⟨.hbm, 194, rfl⟩
abbrev main_call10_v0 : Ref sig .tc := ⟨.hbm, 195, rfl⟩
abbrev main_call10_v1 : Ref sig .tc := ⟨.hbm, 196, rfl⟩
abbrev main_call10_v2 : Ref sig .tc := ⟨.hbm, 197, rfl⟩
abbrev main_call10_v3 : Ref sig .tc := ⟨.hbm, 198, rfl⟩
abbrev main_call10_v4 : Ref sig .tc := ⟨.hbm, 199, rfl⟩
abbrev main_call10_v5 : Ref sig .tc := ⟨.hbm, 200, rfl⟩
abbrev main_call10_v6 : Ref sig .tc := ⟨.hbm, 201, rfl⟩
abbrev main_call10_v7 : Ref sig .tc := ⟨.hbm, 202, rfl⟩
abbrev main_call10_v8 : Ref sig .tc := ⟨.hbm, 203, rfl⟩
abbrev main_call10_v9 : Ref sig .tc := ⟨.hbm, 204, rfl⟩
abbrev main_call10_v10 : Ref sig .tc := ⟨.hbm, 205, rfl⟩
abbrev main_call10_c : Ref sig .tc := ⟨.hbm, 206, rfl⟩
abbrev main_call10_v11 : Ref sig .tc := ⟨.hbm, 207, rfl⟩
abbrev main_call10_v12 : Ref sig .tc := ⟨.hbm, 208, rfl⟩
abbrev main_call10_v13 : Ref sig .tc := ⟨.hbm, 209, rfl⟩
abbrev main_call10_c_0 : Ref sig .tc := ⟨.hbm, 210, rfl⟩
abbrev main_call10_v14 : Ref sig .tc := ⟨.hbm, 211, rfl⟩
abbrev main_call10_v15 : Ref sig .tc := ⟨.hbm, 212, rfl⟩
abbrev main_v84 : Ref sig .tc := ⟨.hbm, 213, rfl⟩
abbrev main_v85 : Ref sig .tc := ⟨.hbm, 214, rfl⟩
abbrev main_v86 : Ref sig .tc := ⟨.hbm, 215, rfl⟩
abbrev main_v87 : Ref sig .tc := ⟨.hbm, 216, rfl⟩
abbrev main_v88 : Ref sig .tc := ⟨.hbm, 217, rfl⟩
abbrev main_v89 : Ref sig .tc := ⟨.hbm, 218, rfl⟩
abbrev main_c_16 : Ref sig .tc := ⟨.hbm, 219, rfl⟩
abbrev main_c_17 : Ref sig .tc := ⟨.hbm, 220, rfl⟩
abbrev main_call11_v0 : Ref sig .tc := ⟨.hbm, 221, rfl⟩
abbrev main_call11_v1 : Ref sig .tc := ⟨.hbm, 222, rfl⟩
abbrev main_call11_v2 : Ref sig .tc := ⟨.hbm, 223, rfl⟩
abbrev main_call11_v3 : Ref sig .tc := ⟨.hbm, 224, rfl⟩
abbrev main_call11_v4 : Ref sig .tc := ⟨.hbm, 225, rfl⟩
abbrev main_v90 : Ref sig .tc := ⟨.hbm, 226, rfl⟩
abbrev main_cst_18 : Ref sig .tc := ⟨.hbm, 227, rfl⟩
abbrev main_v91 : Ref sig .tc := ⟨.hbm, 228, rfl⟩
abbrev main_cst_19 : Ref sig .tc := ⟨.hbm, 229, rfl⟩
abbrev main_v92 : Ref sig .tc := ⟨.hbm, 230, rfl⟩
abbrev main_v93 : Ref sig .tc := ⟨.hbm, 231, rfl⟩
abbrev main_c_20 : Ref sig .tc := ⟨.hbm, 232, rfl⟩
abbrev main_call12_v0 : Ref sig .tc := ⟨.hbm, 233, rfl⟩
abbrev main_v94 : Ref sig .tc := ⟨.hbm, 234, rfl⟩
abbrev main_cst_21 : Ref sig .tc := ⟨.hbm, 235, rfl⟩
abbrev main_v95 : Ref sig .tc := ⟨.hbm, 236, rfl⟩
abbrev main_v96 : Ref sig .tc := ⟨.hbm, 237, rfl⟩
abbrev main_v97 : Ref sig .tc := ⟨.hbm, 238, rfl⟩
abbrev main_v98 : Ref sig .tc := ⟨.hbm, 239, rfl⟩
abbrev main_v99 : Ref sig .tc := ⟨.hbm, 240, rfl⟩
abbrev main_v100 : Ref sig .tc := ⟨.hbm, 241, rfl⟩
abbrev main_v101 : Ref sig .tc := ⟨.hbm, 242, rfl⟩
abbrev main_v102 : Ref sig .tc := ⟨.hbm, 243, rfl⟩
abbrev main_v103 : Ref sig .tc := ⟨.hbm, 244, rfl⟩
abbrev main_v104 : Ref sig .tc := ⟨.hbm, 245, rfl⟩
abbrev main_v105 : Ref sig .tc := ⟨.hbm, 246, rfl⟩
abbrev main_v106 : Ref sig .tc := ⟨.hbm, 247, rfl⟩
abbrev main_v107 : Ref sig .tc := ⟨.hbm, 248, rfl⟩
abbrev main_v108 : Ref sig .tc := ⟨.hbm, 249, rfl⟩
abbrev main_v109 : Ref sig .tc := ⟨.hbm, 250, rfl⟩
abbrev main_v110 : Ref sig .tc := ⟨.hbm, 251, rfl⟩
abbrev main_v111 : Ref sig .tc := ⟨.hbm, 252, rfl⟩
abbrev main_v112 : Ref sig .tc := ⟨.hbm, 253, rfl⟩
abbrev main_v113 : Ref sig .tc := ⟨.hbm, 254, rfl⟩
abbrev main_v114 : Ref sig .tc := ⟨.hbm, 255, rfl⟩
abbrev main_v115 : Ref sig .tc := ⟨.hbm, 256, rfl⟩
abbrev main_v116 : Ref sig .tc := ⟨.hbm, 257, rfl⟩
abbrev main_v117 : Ref sig .tc := ⟨.hbm, 258, rfl⟩
abbrev main_v118 : Ref sig .tc := ⟨.hbm, 259, rfl⟩
abbrev main_v119 : Ref sig .tc := ⟨.hbm, 260, rfl⟩
abbrev main_v120 : Ref sig .tc := ⟨.hbm, 261, rfl⟩
abbrev main_v121 : Ref sig .tc := ⟨.hbm, 262, rfl⟩
abbrev main_v122 : Ref sig .tc := ⟨.hbm, 263, rfl⟩
abbrev main_v123 : Ref sig .tc := ⟨.hbm, 264, rfl⟩
abbrev main_v124 : Ref sig .tc := ⟨.hbm, 265, rfl⟩
abbrev main_v125 : Ref sig .tc := ⟨.hbm, 266, rfl⟩
abbrev main_v126 : Ref sig .tc := ⟨.hbm, 267, rfl⟩
abbrev main_v127 : Ref sig .tc := ⟨.hbm, 268, rfl⟩
abbrev main_v128 : Ref sig .tc := ⟨.hbm, 269, rfl⟩
abbrev main_v129 : Ref sig .tc := ⟨.hbm, 270, rfl⟩
abbrev main_v130 : Ref sig .tc := ⟨.hbm, 271, rfl⟩
abbrev main_v131 : Ref sig .tc := ⟨.hbm, 272, rfl⟩
abbrev main_v132 : Ref sig .tc := ⟨.hbm, 273, rfl⟩
abbrev main_v133 : Ref sig .tc := ⟨.hbm, 274, rfl⟩
abbrev main_v134 : Ref sig .tc := ⟨.hbm, 275, rfl⟩
abbrev main_v135 : Ref sig .tc := ⟨.hbm, 276, rfl⟩
abbrev main_v136 : Ref sig .tc := ⟨.hbm, 277, rfl⟩
abbrev main_v137 : Ref sig .tc := ⟨.hbm, 278, rfl⟩
abbrev main_v138 : Ref sig .tc := ⟨.hbm, 279, rfl⟩
abbrev main_v139 : Ref sig .tc := ⟨.hbm, 280, rfl⟩
abbrev main_v140 : Ref sig .tc := ⟨.hbm, 281, rfl⟩
abbrev main_v141 : Ref sig .tc := ⟨.hbm, 282, rfl⟩
abbrev main_v142 : Ref sig .tc := ⟨.hbm, 283, rfl⟩
abbrev main_v143 : Ref sig .tc := ⟨.hbm, 284, rfl⟩
abbrev main_v144 : Ref sig .tc := ⟨.hbm, 285, rfl⟩
abbrev main_v145 : Ref sig .tc := ⟨.hbm, 286, rfl⟩
abbrev main_v146 : Ref sig .tc := ⟨.hbm, 287, rfl⟩
abbrev main_v147 : Ref sig .tc := ⟨.hbm, 288, rfl⟩
abbrev main_v148 : Ref sig .tc := ⟨.hbm, 289, rfl⟩
abbrev main_v149 : Ref sig .tc := ⟨.hbm, 290, rfl⟩
abbrev main_v150 : Ref sig .tc := ⟨.hbm, 291, rfl⟩
abbrev main_v151 : Ref sig .tc := ⟨.hbm, 292, rfl⟩
abbrev main_v152 : Ref sig .tc := ⟨.hbm, 293, rfl⟩
abbrev main_v153 : Ref sig .tc := ⟨.hbm, 294, rfl⟩
abbrev main_v154 : Ref sig .tc := ⟨.hbm, 295, rfl⟩
abbrev main_v155 : Ref sig .tc := ⟨.hbm, 296, rfl⟩
abbrev main_v156 : Ref sig .tc := ⟨.hbm, 297, rfl⟩
abbrev main_v157 : Ref sig .tc := ⟨.hbm, 298, rfl⟩
abbrev main_v158 : Ref sig .tc := ⟨.hbm, 299, rfl⟩
abbrev main_v159 : Ref sig .tc := ⟨.hbm, 300, rfl⟩
abbrev main_v160 : Ref sig .tc := ⟨.hbm, 301, rfl⟩
abbrev main_v161 : Ref sig .tc := ⟨.hbm, 302, rfl⟩
abbrev main_cst_22 : Ref sig .tc := ⟨.hbm, 303, rfl⟩
abbrev main_v162 : Ref sig .tc := ⟨.hbm, 304, rfl⟩
abbrev main_v163 : Ref sig .tc := ⟨.hbm, 305, rfl⟩
abbrev main_cst_23 : Ref sig .tc := ⟨.hbm, 306, rfl⟩
abbrev main_v164 : Ref sig .tc := ⟨.hbm, 307, rfl⟩
abbrev main_v165 : Ref sig .tc := ⟨.hbm, 308, rfl⟩
abbrev main_v166 : Ref sig .tc := ⟨.hbm, 309, rfl⟩
abbrev main_v167 : Ref sig .tc := ⟨.hbm, 310, rfl⟩
abbrev main_v168 : Ref sig .tc := ⟨.hbm, 311, rfl⟩
abbrev main_cst_24 : Ref sig .tc := ⟨.hbm, 312, rfl⟩
abbrev main_v169 : Ref sig .tc := ⟨.hbm, 313, rfl⟩
abbrev main_v170 : Ref sig .tc := ⟨.hbm, 314, rfl⟩
abbrev main_cst_25 : Ref sig .tc := ⟨.hbm, 315, rfl⟩
abbrev main_v171 : Ref sig .tc := ⟨.hbm, 316, rfl⟩
abbrev main_v172 : Ref sig .tc := ⟨.hbm, 317, rfl⟩
abbrev main_v173 : Ref sig .tc := ⟨.hbm, 318, rfl⟩
abbrev main_v174 : Ref sig .tc := ⟨.hbm, 319, rfl⟩
abbrev main_cst_26 : Ref sig .tc := ⟨.hbm, 320, rfl⟩
abbrev main_v175 : Ref sig .tc := ⟨.hbm, 321, rfl⟩
abbrev main_v176 : Ref sig .tc := ⟨.hbm, 322, rfl⟩
abbrev main_v177 : Ref sig .tc := ⟨.hbm, 323, rfl⟩
abbrev main_v178 : Ref sig .tc := ⟨.hbm, 324, rfl⟩
abbrev main_v179 : Ref sig .tc := ⟨.hbm, 325, rfl⟩
abbrev main_v180 : Ref sig .tc := ⟨.hbm, 326, rfl⟩
abbrev main_v181 : Ref sig .tc := ⟨.hbm, 327, rfl⟩
abbrev main_v182 : Ref sig .tc := ⟨.hbm, 328, rfl⟩
abbrev main_v183 : Ref sig .tc := ⟨.hbm, 329, rfl⟩
abbrev main_v184 : Ref sig .tc := ⟨.hbm, 330, rfl⟩
abbrev main_v185 : Ref sig .tc := ⟨.hbm, 331, rfl⟩
abbrev main_v186 : Ref sig .tc := ⟨.hbm, 332, rfl⟩
abbrev main_v187 : Ref sig .tc := ⟨.hbm, 333, rfl⟩
abbrev main_v188 : Ref sig .tc := ⟨.hbm, 334, rfl⟩
abbrev main_cst_27 : Ref sig .tc := ⟨.hbm, 335, rfl⟩
abbrev main_v189 : Ref sig .tc := ⟨.hbm, 336, rfl⟩
abbrev main_v190 : Ref sig .tc := ⟨.hbm, 337, rfl⟩
abbrev main_v191 : Ref sig .tc := ⟨.hbm, 338, rfl⟩
abbrev main_cst_28 : Ref sig .tc := ⟨.hbm, 339, rfl⟩
abbrev main_v192 : Ref sig .tc := ⟨.hbm, 340, rfl⟩
abbrev main_v193 : Ref sig .tc := ⟨.hbm, 341, rfl⟩
abbrev main_v194 : Ref sig .tc := ⟨.hbm, 342, rfl⟩
abbrev main_cst_29 : Ref sig .tc := ⟨.hbm, 343, rfl⟩
abbrev main_v195 : Ref sig .tc := ⟨.hbm, 344, rfl⟩
abbrev main_v196 : Ref sig .tc := ⟨.hbm, 345, rfl⟩
abbrev main_cst_30 : Ref sig .tc := ⟨.hbm, 346, rfl⟩
abbrev main_v197 : Ref sig .tc := ⟨.hbm, 347, rfl⟩
abbrev main_v198 : Ref sig .tc := ⟨.hbm, 348, rfl⟩
abbrev main_v199 : Ref sig .tc := ⟨.hbm, 349, rfl⟩
abbrev main_cst_31 : Ref sig .tc := ⟨.hbm, 350, rfl⟩
abbrev main_v200 : Ref sig .tc := ⟨.hbm, 351, rfl⟩
abbrev main_cst_32 : Ref sig .tc := ⟨.hbm, 352, rfl⟩
abbrev main_v201 : Ref sig .tc := ⟨.hbm, 353, rfl⟩
abbrev main_v202 : Ref sig .tc := ⟨.hbm, 354, rfl⟩
abbrev main_v203 : Ref sig .tc := ⟨.hbm, 355, rfl⟩
abbrev main_v204 : Ref sig .tc := ⟨.hbm, 356, rfl⟩
abbrev main_v205 : Ref sig .tc := ⟨.hbm, 357, rfl⟩
abbrev main_cst_33 : Ref sig .tc := ⟨.hbm, 358, rfl⟩
abbrev main_v206 : Ref sig .tc := ⟨.hbm, 359, rfl⟩
abbrev main_v207 : Ref sig .tc := ⟨.hbm, 360, rfl⟩
abbrev main_cst_34 : Ref sig .tc := ⟨.hbm, 361, rfl⟩
abbrev main_v208 : Ref sig .tc := ⟨.hbm, 362, rfl⟩
abbrev main_v209 : Ref sig .tc := ⟨.hbm, 363, rfl⟩
abbrev main_v210 : Ref sig .tc := ⟨.hbm, 364, rfl⟩
abbrev main_v211 : Ref sig .tc := ⟨.hbm, 365, rfl⟩
abbrev main_v212 : Ref sig .tc := ⟨.hbm, 366, rfl⟩
abbrev main_v213 : Ref sig .tc := ⟨.hbm, 367, rfl⟩
abbrev main_v214 : Ref sig .tc := ⟨.hbm, 368, rfl⟩
abbrev main_v215 : Ref sig .tc := ⟨.hbm, 369, rfl⟩
abbrev main_v216 : Ref sig .tc := ⟨.hbm, 370, rfl⟩
abbrev main_v217 : Ref sig .tc := ⟨.hbm, 371, rfl⟩
abbrev main_v218 : Ref sig .tc := ⟨.hbm, 372, rfl⟩
abbrev main_v219 : Ref sig .tc := ⟨.hbm, 373, rfl⟩
abbrev main_v220 : Ref sig .tc := ⟨.hbm, 374, rfl⟩
abbrev main_c_35 : Ref sig .tc := ⟨.hbm, 375, rfl⟩
abbrev main_v221 : Ref sig .tc := ⟨.hbm, 376, rfl⟩
abbrev main_v222 : Ref sig .tc := ⟨.hbm, 377, rfl⟩
abbrev main_v223 : Ref sig .tc := ⟨.hbm, 378, rfl⟩
abbrev main_c_36 : Ref sig .tc := ⟨.hbm, 379, rfl⟩
abbrev main_c_37 : Ref sig .tc := ⟨.hbm, 380, rfl⟩
abbrev main_call13_v0 : Ref sig .tc := ⟨.hbm, 381, rfl⟩
abbrev main_call13_v1 : Ref sig .tc := ⟨.hbm, 382, rfl⟩
abbrev main_call13_v2 : Ref sig .tc := ⟨.hbm, 383, rfl⟩
abbrev main_call13_v3 : Ref sig .tc := ⟨.hbm, 384, rfl⟩
abbrev main_call13_v4 : Ref sig .tc := ⟨.hbm, 385, rfl⟩
abbrev main_v224 : Ref sig .tc := ⟨.hbm, 386, rfl⟩
abbrev main_call14_v0 : Ref sig .tc := ⟨.hbm, 387, rfl⟩
abbrev main_v225 : Ref sig .tc := ⟨.hbm, 388, rfl⟩
abbrev main_v226 : Ref sig .tc := ⟨.hbm, 389, rfl⟩
abbrev main_v227 : Ref sig .tc := ⟨.hbm, 390, rfl⟩
abbrev main_v228 : Ref sig .tc := ⟨.hbm, 391, rfl⟩
abbrev main_v229 : Ref sig .tc := ⟨.hbm, 392, rfl⟩
abbrev main_v230 : Ref sig .tc := ⟨.hbm, 393, rfl⟩
abbrev main_cst_38 : Ref sig .tc := ⟨.hbm, 394, rfl⟩
abbrev main_v231 : Ref sig .tc := ⟨.hbm, 395, rfl⟩
abbrev main_v232 : Ref sig .tc := ⟨.hbm, 396, rfl⟩
abbrev main_c_39 : Ref sig .tc := ⟨.hbm, 397, rfl⟩
abbrev main_call15_v0 : Ref sig .tc := ⟨.hbm, 398, rfl⟩
abbrev main_v233 : Ref sig .tc := ⟨.hbm, 399, rfl⟩
abbrev main_cst_40 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_v240 : Ref sig .tc := ⟨.hbm, 407, rfl⟩
abbrev main_v241 : Ref sig .tc := ⟨.hbm, 408, rfl⟩
abbrev main_v242 : Ref sig .tc := ⟨.hbm, 409, rfl⟩
abbrev main_v243 : Ref sig .tc := ⟨.hbm, 410, rfl⟩
abbrev main_v244 : Ref sig .tc := ⟨.hbm, 411, rfl⟩
abbrev main_v245 : Ref sig .tc := ⟨.hbm, 412, rfl⟩
abbrev main_v246 : Ref sig .tc := ⟨.hbm, 413, rfl⟩
abbrev main_v247 : Ref sig .tc := ⟨.hbm, 414, rfl⟩
abbrev main_v248 : Ref sig .tc := ⟨.hbm, 415, rfl⟩
abbrev main_v249 : Ref sig .tc := ⟨.hbm, 416, rfl⟩
abbrev main_v250 : Ref sig .tc := ⟨.hbm, 417, rfl⟩
abbrev main_v251 : Ref sig .tc := ⟨.hbm, 418, rfl⟩
abbrev main_v252 : Ref sig .tc := ⟨.hbm, 419, rfl⟩
abbrev main_v253 : Ref sig .tc := ⟨.hbm, 420, rfl⟩
abbrev main_v254 : Ref sig .tc := ⟨.hbm, 421, rfl⟩
abbrev main_v255 : Ref sig .tc := ⟨.hbm, 422, rfl⟩
abbrev main_v256 : Ref sig .tc := ⟨.hbm, 423, rfl⟩
abbrev main_v257 : Ref sig .tc := ⟨.hbm, 424, rfl⟩
abbrev main_v258 : Ref sig .tc := ⟨.hbm, 425, rfl⟩
abbrev main_v259 : Ref sig .tc := ⟨.hbm, 426, rfl⟩
abbrev main_v260 : Ref sig .tc := ⟨.hbm, 427, rfl⟩
abbrev main_v261 : Ref sig .tc := ⟨.hbm, 428, rfl⟩
abbrev main_v262 : Ref sig .tc := ⟨.hbm, 429, rfl⟩
abbrev main_v263 : Ref sig .tc := ⟨.hbm, 430, rfl⟩
abbrev main_v264 : Ref sig .tc := ⟨.hbm, 431, rfl⟩
abbrev main_v265 : Ref sig .tc := ⟨.hbm, 432, rfl⟩
abbrev main_v266 : Ref sig .tc := ⟨.hbm, 433, rfl⟩
abbrev main_v267 : Ref sig .tc := ⟨.hbm, 434, rfl⟩
abbrev main_v268 : Ref sig .tc := ⟨.hbm, 435, rfl⟩
abbrev main_v269 : Ref sig .tc := ⟨.hbm, 436, rfl⟩
abbrev main_v270 : Ref sig .tc := ⟨.hbm, 437, rfl⟩
abbrev main_v271 : Ref sig .tc := ⟨.hbm, 438, rfl⟩
abbrev main_v272 : Ref sig .tc := ⟨.hbm, 439, rfl⟩
abbrev main_v273 : Ref sig .tc := ⟨.hbm, 440, rfl⟩
abbrev main_v274 : Ref sig .tc := ⟨.hbm, 441, rfl⟩
abbrev main_v275 : Ref sig .tc := ⟨.hbm, 442, rfl⟩
abbrev main_v276 : Ref sig .tc := ⟨.hbm, 443, rfl⟩
abbrev main_v277 : Ref sig .tc := ⟨.hbm, 444, rfl⟩
abbrev main_v278 : Ref sig .tc := ⟨.hbm, 445, rfl⟩
abbrev main_v279 : Ref sig .tc := ⟨.hbm, 446, rfl⟩
abbrev main_v280 : Ref sig .tc := ⟨.hbm, 447, rfl⟩
abbrev main_v281 : Ref sig .tc := ⟨.hbm, 448, rfl⟩
abbrev main_v282 : Ref sig .tc := ⟨.hbm, 449, rfl⟩
abbrev main_v283 : Ref sig .tc := ⟨.hbm, 450, rfl⟩
abbrev main_v284 : Ref sig .tc := ⟨.hbm, 451, rfl⟩
abbrev main_v285 : Ref sig .tc := ⟨.hbm, 452, rfl⟩
abbrev main_v286 : Ref sig .tc := ⟨.hbm, 453, rfl⟩
abbrev main_v287 : Ref sig .tc := ⟨.hbm, 454, rfl⟩
abbrev main_cst_41 : Ref sig .tc := ⟨.hbm, 455, rfl⟩
abbrev main_v288 : Ref sig .tc := ⟨.hbm, 456, rfl⟩
abbrev main_v289 : Ref sig .tc := ⟨.hbm, 457, rfl⟩
abbrev main_v290 : Ref sig .tc := ⟨.hbm, 458, rfl⟩
abbrev main_cst_42 : Ref sig .tc := ⟨.hbm, 459, rfl⟩
abbrev main_v291 : Ref sig .tc := ⟨.hbm, 460, rfl⟩
abbrev main_v292 : Ref sig .tc := ⟨.hbm, 461, rfl⟩
abbrev main_v293 : Ref sig .tc := ⟨.hbm, 462, rfl⟩
abbrev main_cst_43 : Ref sig .tc := ⟨.hbm, 463, rfl⟩
abbrev main_v294 : Ref sig .tc := ⟨.hbm, 464, rfl⟩
abbrev main_v295 : Ref sig .tc := ⟨.hbm, 465, rfl⟩
abbrev main_cst_44 : Ref sig .tc := ⟨.hbm, 466, rfl⟩
abbrev main_v296 : Ref sig .tc := ⟨.hbm, 467, rfl⟩
abbrev main_v297 : Ref sig .tc := ⟨.hbm, 468, rfl⟩
abbrev main_v298 : Ref sig .tc := ⟨.hbm, 469, rfl⟩
abbrev main_v299 : Ref sig .tc := ⟨.hbm, 470, rfl⟩
abbrev main_v300 : Ref sig .tc := ⟨.hbm, 471, rfl⟩
abbrev main_cst_45 : Ref sig .tc := ⟨.hbm, 472, rfl⟩
abbrev main_v301 : Ref sig .tc := ⟨.hbm, 473, rfl⟩
abbrev main_v302 : Ref sig .tc := ⟨.hbm, 474, rfl⟩
abbrev main_v303 : Ref sig .tc := ⟨.hbm, 475, rfl⟩
abbrev main_cst_46 : Ref sig .tc := ⟨.hbm, 476, rfl⟩
abbrev main_v304 : Ref sig .tc := ⟨.hbm, 477, rfl⟩
abbrev main_v305 : Ref sig .tc := ⟨.hbm, 478, rfl⟩
abbrev main_cst_47 : Ref sig .tc := ⟨.hbm, 479, rfl⟩
abbrev main_v306 : Ref sig .tc := ⟨.hbm, 480, rfl⟩
abbrev main_v307 : Ref sig .tc := ⟨.hbm, 481, rfl⟩
abbrev main_v308 : Ref sig .tc := ⟨.hbm, 482, rfl⟩
abbrev main_v309 : Ref sig .tc := ⟨.hbm, 483, rfl⟩
abbrev main_v310 : Ref sig .tc := ⟨.hbm, 484, rfl⟩
abbrev main_v311 : Ref sig .tc := ⟨.hbm, 485, rfl⟩
abbrev main_cst_48 : Ref sig .tc := ⟨.hbm, 486, rfl⟩
abbrev main_v312 : Ref sig .tc := ⟨.hbm, 487, rfl⟩
abbrev main_v313 : Ref sig .tc := ⟨.hbm, 488, rfl⟩
abbrev main_v314 : Ref sig .tc := ⟨.hbm, 489, rfl⟩
abbrev main_v315 : Ref sig .tc := ⟨.hbm, 490, rfl⟩
abbrev main_cst_49 : Ref sig .tc := ⟨.hbm, 491, rfl⟩
abbrev main_v316 : Ref sig .tc := ⟨.hbm, 492, rfl⟩
abbrev main_v317 : Ref sig .tc := ⟨.hbm, 493, rfl⟩
abbrev main_cst_50 : Ref sig .tc := ⟨.hbm, 494, rfl⟩
abbrev main_cst_51 : Ref sig .tc := ⟨.hbm, 495, rfl⟩
abbrev main_v318 : Ref sig .tc := ⟨.hbm, 496, rfl⟩
abbrev main_v319 : Ref sig .tc := ⟨.hbm, 497, rfl⟩
abbrev main_cst_52 : Ref sig .tc := ⟨.hbm, 498, rfl⟩
abbrev main_v320 : Ref sig .tc := ⟨.hbm, 499, rfl⟩
abbrev main_v321 : Ref sig .tc := ⟨.hbm, 500, rfl⟩
abbrev main_v322 : Ref sig .tc := ⟨.hbm, 501, rfl⟩
abbrev main_cst_53 : Ref sig .tc := ⟨.hbm, 502, rfl⟩
abbrev main_v323 : Ref sig .tc := ⟨.hbm, 503, rfl⟩
abbrev main_v324 : Ref sig .tc := ⟨.hbm, 504, rfl⟩
abbrev main_cst_54 : Ref sig .tc := ⟨.hbm, 505, rfl⟩
abbrev main_cst_55 : Ref sig .tc := ⟨.hbm, 506, rfl⟩
abbrev main_call16_v0 : Ref sig .tc := ⟨.hbm, 507, rfl⟩
abbrev main_call16_v1 : Ref sig .tc := ⟨.hbm, 508, rfl⟩
abbrev main_call16_v2 : Ref sig .tc := ⟨.hbm, 509, rfl⟩
abbrev main_call16_v3 : Ref sig .tc := ⟨.hbm, 510, rfl⟩
abbrev main_call16_v4 : Ref sig .tc := ⟨.hbm, 511, rfl⟩
abbrev main_v325 : Ref sig .tc := ⟨.hbm, 512, rfl⟩
abbrev main_cst_56 : Ref sig .tc := ⟨.hbm, 513, rfl⟩
abbrev main_v326 : Ref sig .tc := ⟨.hbm, 514, rfl⟩
abbrev main_v327 : Ref sig .tc := ⟨.hbm, 515, rfl⟩
abbrev main_cst_57 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_v331 : Ref sig .tc := ⟨.hbm, 520, rfl⟩
abbrev main_cst_58 : Ref sig .tc := ⟨.hbm, 521, rfl⟩
abbrev main_v332 : Ref sig .tc := ⟨.hbm, 522, rfl⟩
abbrev main_v333 : Ref sig .tc := ⟨.hbm, 523, rfl⟩
abbrev main_cst_59 : Ref sig .tc := ⟨.hbm, 524, rfl⟩
abbrev main_v334 : Ref sig .tc := ⟨.hbm, 525, rfl⟩
abbrev main_v335 : Ref sig .tc := ⟨.hbm, 526, rfl⟩
abbrev main_v336 : Ref sig .tc := ⟨.hbm, 527, rfl⟩
abbrev main_v337 : Ref sig .tc := ⟨.hbm, 528, rfl⟩
abbrev main_v338 : Ref sig .tc := ⟨.hbm, 529, rfl⟩
abbrev main_cst_60 : Ref sig .tc := ⟨.hbm, 530, rfl⟩
abbrev main_v339 : Ref sig .tc := ⟨.hbm, 531, rfl⟩
abbrev main_v340 : Ref sig .tc := ⟨.hbm, 532, rfl⟩
abbrev main_v341 : Ref sig .tc := ⟨.hbm, 533, rfl⟩
abbrev main_cst_61 : Ref sig .tc := ⟨.hbm, 534, rfl⟩
abbrev main_v342 : Ref sig .tc := ⟨.hbm, 535, rfl⟩
abbrev main_v343 : Ref sig .tc := ⟨.hbm, 536, rfl⟩
abbrev main_v344 : Ref sig .tc := ⟨.hbm, 537, rfl⟩
abbrev main_v345 : Ref sig .tc := ⟨.hbm, 538, rfl⟩
abbrev main_v346 : Ref sig .tc := ⟨.hbm, 539, rfl⟩
abbrev main_v347 : Ref sig .tc := ⟨.hbm, 540, rfl⟩

abbrev nD : Nat := 1
abbrev τ : Topo := Topo.v7x

variable {F : FTy → Type} [FloatOps F]
-- ==== Proof.Stages.lean ====
/- The kernel's body, one batch at a time: the printed payloads of the two batches of a block are the same chain of
   stages, applied to the two batches. Each stage is named here once, at the ideal instance. -/
module

public import proofs.«01_k».proof.Proof.Gen.KernelIdeal.Frame

@[expose] public section

set_option maxRecDepth 16384

noncomputable section

namespace Cert.Stage

open Idealize.ShloMosaic Idealize.SL.Sem
open Cert.KernelIdeal Cert.KernelIdeal.Gen

/-- The weights as the body reads them out of the packed block: the nine taps, the norm's scale and shift, the residual
    scale, the transposed pointwise and gate matrices, and the seven fused local matrices stacked. -/
structure Wts where
  dw : FVec Ideal S9x128 .f32
  gam : FVec Ideal S1x128 .f32
  bet : FVec Ideal S1x128 .f32
  res : FVec Ideal S1x128 .f32
  pw : FVec Ideal S128x128 .f32
  gt : FVec Ideal S128x128 .f32
  lc : FVec Ideal S896x128 .bf16

/-- The column numbers of a row of lags. -/
def lagI : IVec S1x256 32 := iota .tc S1x256 32 [1] iota_S1x256_d1_w32
/-- The row numbers of the block of products. -/
def rowI : IVec S128x256 32 := iota .tc S128x256 32 [0] iota_S128x256_d0_w32
/-- The constant that stands for minus infinity. -/
def neg : Ideal .f32 := Named.named κ "neg" 0xFF61B1E6#32
/-- The lags from 32 to 128. -/
def maskI : IVec S1x256 1 := k0_pay38 lagI

/-- The sum of the block products of a batch with itself. -/
def gram (A : FVec Ideal S2048x128 .f32) : FVec Ideal S128x256 .f32 :=
  k0_pay24 A (k0_pay19 A) (k0_pay20 A) (k0_pay21 A) (k0_pay22 A) (k0_pay23 A)
/-- The autocorrelation read off the block products: row `i` turned by `i`, the rows summed. -/
def autoc (S : FVec Ideal S128x256 .f32) : FVec Ideal S1x256 .f32 := k0_pay37 rowI (k0_pay35 S) (k0_pay36 S) 4#32
/-- The first lag. -/
def idx0 (r : FVec Ideal S1x256 .f32) : IVec S1x1 32 := k0_pay41 lagI r maskI neg
/-- The second lag. -/
def idx1 (r : FVec Ideal S1x256 .f32) : IVec S1x1 32 := k0_pay44 lagI r maskI neg
/-- The third lag. -/
def idx2 (r : FVec Ideal S1x256 .f32) : IVec S1x1 32 := k0_pay47 lagI r maskI neg
/-- The first weight. -/
def wt0 (r : FVec Ideal S1x256 .f32) : FVec Ideal S1x1 .f32 := k0_pay53 lagI r maskI neg
/-- The second weight. -/
def wt1 (r : FVec Ideal S1x256 .f32) : FVec Ideal S1x1 .f32 := k0_pay54 lagI r maskI neg
/-- The third weight. -/
def wt2 (r : FVec Ideal S1x256 .f32) : FVec Ideal S1x1 .f32 := k0_pay55 lagI r maskI neg
/-- The entropy gate of the three weights. -/
def gate (w0 w1 w2 : FVec Ideal S1x1 .f32) : FVec Ideal S1x1 .f32 := k0_pay57 w0 w1 w2 k0_pay56
/-- The indicator of the windows: row `64 k + cyc` marks the times of cycle `cyc` at period `k`. -/
def win (i0 i1 i2 : IVec S1x1 32) : FVec Ideal S192x2048 .f32 := k0_pay90 i0 i1 i2
/-- The indicator of the times past the end that are read by reflection. -/
def refl (i0 i1 i2 : IVec S1x1 32) : FVec Ideal S192x128 .f32 := k0_pay88 i0 i1 i2
/-- The means over the cycles. -/
def foldU (A : FVec Ideal S2048x128 .f32) (i0 i1 i2 : IVec S1x1 32) : FVec Ideal S192x128 .f32 :=
  k0_pay89 A (win i0 i1 i2) (refl i0 i1 i2) (constant S192x128 .f32 0x00000000#32)
/-- The indicator of the channel groups. -/
def grp : FVec Ideal S128x32 .f32 := k0_pay95 k0_pay94

section
variable (W : Wts) (U : FVec Ideal S192x128 .f32)
/-- The depthwise and pointwise convolution of the three period sections, stacked with gaps. -/
def conv : FVec Ideal S224x128 .f32 := k0_pay100 W.dw W.pw (k0_pay96 U) (k0_pay97 W.dw U) (k0_pay98 U) (k0_pay99 W.dw)
/-- The first period's deviations. -/
def dev0 : FVec Ideal S64x128 .f32 := k0_pay105 W.dw W.pw grp (k0_pay96 U) (k0_pay97 W.dw U) (k0_pay98 U) (k0_pay99 W.dw)
/-- The second period's deviations. -/
def dev1 : FVec Ideal S64x128 .f32 := k0_pay106 W.dw W.pw grp (k0_pay96 U) (k0_pay97 W.dw U) (k0_pay98 U) (k0_pay99 W.dw)
/-- The third period's deviations. -/
def dev2 : FVec Ideal S64x128 .f32 := k0_pay107 W.dw W.pw grp (k0_pay96 U) (k0_pay97 W.dw U) (k0_pay98 U) (k0_pay99 W.dw)
/-- The sums of squares of the deviations over a section, a row per period. -/
def sq0 : FVec Ideal S1x128 .f32 := k0_pay108 W.dw W.pw grp (k0_pay96 U) (k0_pay97 W.dw U) (k0_pay98 U) (k0_pay99 W.dw)
/-- The second period's sums of squares. -/
def sq1 : FVec Ideal S1x128 .f32 := k0_pay109 W.dw W.pw grp (k0_pay96 U) (k0_pay97 W.dw U) (k0_pay98 U) (k0_pay99 W.dw)
/-- The third period's sums of squares. -/
def sq2 : FVec Ideal S128 .f32 := k0_pay110 W.dw W.pw grp (k0_pay96 U) (k0_pay97 W.dw U) (k0_pay98 U) (k0_pay99 W.dw)
/-- The variances of the groups, spread over their channels. -/
def vars : FVec Ideal S3x128 .f32 := k0_pay111 grp (sq0 W U) (sq1 W U) (sq2 W U)
/-- The channel gates of the three periods. -/
def chan : FVec Ideal S3x128 .f32 := k0_pay112 W.gt U
/-- The weighted residuals of the three periods, stacked. -/
def xres (w0 w1 w2 : FVec Ideal S1x1 .f32) : FVec Ideal S192x128 .f32 :=
  k0_pay121 W.res w2 (chan W U)
    (k0_pay116 (k0_pay113 W.gam W.bet grp (dev0 W U) (sq0 W U) (sq1 W U) (sq2 W U)) (k0_pay114 W.gt U) (k0_pay115 W.res w0))
    (k0_pay117 W.gam W.bet W.res w1 (dev1 W U) (vars W U) (chan W U))
    (k0_pay119 W.gam W.bet (dev2 W U) (vars W U)) (k0_pay120 W.gam W.bet (dev2 W U) (vars W U))
end

/-- The local path. -/
def loc (W : Wts) (A : FVec Ideal S2048x128 .f32) : FVec Ideal S2048x128 .f32 :=
  k0_pay29 W.lc (k0_pay25 A) (k0_pay26 W.lc A) (k0_pay27 A) (k0_pay28 W.lc) (constant S2048x128 .f32 0x00000000#32)

/-- The result of a batch, from the autocorrelation. -/
def outR (W : Wts) (A : FVec Ideal S2048x128 .f32) (r : FVec Ideal S1x256 .f32) : FVec Ideal S1x2048x128 .f32 :=
  k0_pay144 A (loc W A) (gate (wt0 r) (wt1 r) (wt2 r)) (win (idx0 r) (idx1 r) (idx2 r))
    (xres W (foldU A (idx0 r) (idx1 r) (idx2 r)) (wt0 r) (wt1 r) (wt2 r))

/-- The result of a batch. -/
def outB (W : Wts) (A : FVec Ideal S2048x128 .f32) : FVec Ideal S1x2048x128 .f32 := outR W A (autoc (gram A))

variable (x0 : Vec Ideal S2x2048x128 .f32) (x1 : Vec Ideal S1168x128 .f32)

/-- The weights in a packed block. -/
def wts : Wts := ⟨k0_pay146 x0 x1, k0_pay147 x0 x1, k0_pay148 x0 x1, k0_pay149 x0 x1, k0_pay150 x0 x1, k0_pay151 x0 x1,
  k0_pay152 x0 x1⟩

/-! ### The first batch of a block -/

/-- The first batch: the block products. -/
theorem gram_0 : k0_pay156 x0 x1 = gram (k0_pay153 x0 x1) := rfl
/-- The first batch: the autocorrelation. -/
theorem autoc_0 : k0_pay160 x0 x1 = autoc (gram (k0_pay153 x0 x1)) := by
  unfold k0_pay160; rw [gram_0]; rfl
/-- The first batch: the first lag. -/
theorem idx0_0 : k0_pay162 x0 x1 = idx0 (autoc (gram (k0_pay153 x0 x1))) := by unfold k0_pay162; rw [autoc_0]; rfl
/-- The first batch: the second lag. -/
theorem idx1_0 : k0_pay163 x0 x1 = idx1 (autoc (gram (k0_pay153 x0 x1))) := by unfold k0_pay163; rw [autoc_0]; rfl
/-- The first batch: the third lag. -/
theorem idx2_0 : k0_pay164 x0 x1 = idx2 (autoc (gram (k0_pay153 x0 x1))) := by unfold k0_pay164; rw [autoc_0]; rfl
/-- The first batch: the first weight. -/
theorem wt0_0 : k0_pay165 x0 x1 = wt0 (autoc (gram (k0_pay153 x0 x1))) := by unfold k0_pay165; rw [autoc_0]; rfl
/-- The first batch: the second weight. -/
theorem wt1_0 : k0_pay166 x0 x1 = wt1 (autoc (gram (k0_pay153 x0 x1))) := by unfold k0_pay166; rw [autoc_0]; rfl
/-- The first batch: the third weight. -/
theorem wt2_0 : k0_pay167 x0 x1 = wt2 (autoc (gram (k0_pay153 x0 x1))) := by unfold k0_pay167; rw [autoc_0]; rfl
/-- The first batch: the 0/1 matrix of the cycles. -/
theorem win_0 : k0_pay177 x0 x1 = win (k0_pay162 x0 x1) (k0_pay163 x0 x1) (k0_pay164 x0 x1) := rfl
/-- The first batch: the means of the cycles. -/
theorem fold_0 : k0_pay178 x0 x1 = foldU (k0_pay153 x0 x1) (k0_pay162 x0 x1) (k0_pay163 x0 x1) (k0_pay164 x0 x1) := by
  unfold k0_pay178; rw [win_0]; rfl

/-- What the body stores for the first batch. -/
theorem out_0 : k0_pay144 (k0_pay153 x0 x1) (k0_pay29 (k0_pay152 x0 x1) (k0_pay25 (k0_pay153 x0 x1)) (k0_pay26 (k0_pay152 x0 x1) (k0_pay153 x0 x1)) (k0_pay27 (k0_pay153 x0 x1)) (k0_pay28 (k0_pay152 x0 x1)) (constant S2048x128 .f32 0x00000000#32)) (k0_pay57 (k0_pay165 x0 x1) (k0_pay166 x0 x1) (k0_pay167 x0 x1) (k0_pay56 (F := Ideal))) (k0_pay177 x0 x1) (k0_pay121 (k0_pay149 x0 x1) (k0_pay167 x0 x1) (k0_pay191 x0 x1) (k0_pay116 (k0_pay113 (k0_pay147 x0 x1) (k0_pay148 x0 x1) (k0_pay181 x0 x1) (k0_pay105 (k0_pay146 x0 x1) (k0_pay150 x0 x1) (k0_pay181 x0 x1) (k0_pay182 x0 x1) (k0_pay183 x0 x1) (k0_pay184 x0 x1) (k0_pay185 x0 x1)) (k0_pay187 x0 x1) (k0_pay188 x0 x1) (k0_pay189 x0 x1)) (k0_pay114 (k0_pay151 x0 x1) (k0_pay178 x0 x1)) (k0_pay115 (k0_pay149 x0 x1) (k0_pay165 x0 x1))) (k0_pay117 (k0_pay147 x0 x1) (k0_pay148 x0 x1) (k0_pay149 x0 x1) (k0_pay166 x0 x1) (k0_pay106 (k0_pay146 x0 x1) (k0_pay150 x0 x1) (k0_pay181 x0 x1) (k0_pay182 x0 x1) (k0_pay183 x0 x1) (k0_pay184 x0 x1) (k0_pay185 x0 x1)) (k0_pay190 x0 x1) (k0_pay191 x0 x1)) (k0_pay119 (k0_pay147 x0 x1) (k0_pay148 x0 x1) (k0_pay186 x0 x1) (k0_pay190 x0 x1)) (k0_pay120 (k0_pay147 x0 x1) (k0_pay148 x0 x1) (k0_pay186 x0 x1) (k0_pay190 x0 x1)))
    = outB (wts x0 x1) (k0_pay153 x0 x1) := by
  unfold k0_pay190 k0_pay191 k0_pay189 k0_pay188 k0_pay187 k0_pay186 k0_pay185 k0_pay184 k0_pay183 k0_pay182 k0_pay181
  rw [win_0, fold_0, idx0_0, idx1_0, idx2_0, wt0_0, wt1_0, wt2_0]
  rfl

/-! ### The second batch of a block -/

/-- The second batch: the block products. -/
theorem gram_1 : k0_pay157 x0 x1 = gram (k0_pay154 x0 x1) := rfl
/-- The second batch: the autocorrelation. -/
theorem autoc_1 : k0_pay168 x0 x1 = autoc (gram (k0_pay154 x0 x1)) := by
  unfold k0_pay168; rw [gram_1]; rfl
/-- The second batch: the first lag. -/
theorem idx0_1 : k0_pay170 x0 x1 = idx0 (autoc (gram (k0_pay154 x0 x1))) := by unfold k0_pay170; rw [autoc_1]; rfl
/-- The second batch: the second lag. -/
theorem idx1_1 : k0_pay171 x0 x1 = idx1 (autoc (gram (k0_pay154 x0 x1))) := by unfold k0_pay171; rw [autoc_1]; rfl
/-- The second batch: the third lag. -/
theorem idx2_1 : k0_pay172 x0 x1 = idx2 (autoc (gram (k0_pay154 x0 x1))) := by unfold k0_pay172; rw [autoc_1]; rfl
/-- The second batch: the first weight. -/
theorem wt0_1 : k0_pay79 (k0_pay173 x0 x1) (k0_pay175 x0 x1) (k0_pay176 x0 x1) = wt0 (autoc (gram (k0_pay154 x0 x1))) := by
  unfold k0_pay173 k0_pay175 k0_pay176; rw [autoc_1]; rfl
/-- The second batch: the second weight. -/
theorem wt1_1 : k0_pay80 (k0_pay174 x0 x1) (k0_pay175 x0 x1) (k0_pay176 x0 x1) = wt1 (autoc (gram (k0_pay154 x0 x1))) := by
  unfold k0_pay174 k0_pay175 k0_pay176; rw [autoc_1]; rfl
/-- The second batch: the third weight. -/
theorem wt2_1 : k0_pay81 (k0_pay175 x0 x1) (k0_pay176 x0 x1) = wt2 (autoc (gram (k0_pay154 x0 x1))) := by
  unfold k0_pay175 k0_pay176; rw [autoc_1]; rfl
/-- The second batch: the gate. -/
theorem gate_1 : k0_pay82 (k0_pay173 x0 x1) (k0_pay174 x0 x1) (k0_pay175 x0 x1) (k0_pay176 x0 x1)
    = gate (k0_pay79 (k0_pay173 x0 x1) (k0_pay175 x0 x1) (k0_pay176 x0 x1))
        (k0_pay80 (k0_pay174 x0 x1) (k0_pay175 x0 x1) (k0_pay176 x0 x1)) (k0_pay81 (k0_pay175 x0 x1) (k0_pay176 x0 x1)) := rfl
/-- The second batch: the 0/1 matrix of the cycles. -/
theorem win_1 : k0_pay179 x0 x1 = win (k0_pay170 x0 x1) (k0_pay171 x0 x1) (k0_pay172 x0 x1) := rfl
/-- The second batch: the means of the cycles. -/
theorem fold_1 : k0_pay180 x0 x1 = foldU (k0_pay154 x0 x1) (k0_pay170 x0 x1) (k0_pay171 x0 x1) (k0_pay172 x0 x1) := by
  unfold k0_pay180; rw [win_1]; rfl
/-- The second batch: the first period's deviations. -/
theorem dev0_1 : k0_pay196 x0 x1 = dev0 (wts x0 x1) (k0_pay180 x0 x1) := rfl
/-- The second batch: the second period's deviations. -/
theorem dev1_1 : k0_pay197 x0 x1 = dev1 (wts x0 x1) (k0_pay180 x0 x1) := rfl
/-- The second batch: the third period's deviations. -/
theorem dev2_1 : k0_pay198 x0 x1 = dev2 (wts x0 x1) (k0_pay180 x0 x1) := rfl
/-- The second batch: the variances. -/
theorem sq_1 : k0_pay200 x0 x1 = vars (wts x0 x1) (k0_pay180 x0 x1) := by
  unfold k0_pay200; rw [dev1_1, dev2_1]; rfl

/-- What the body stores for the second batch. -/
theorem out_1 : k0_pay1 (k0_pay154 x0 x1) (k0_pay34 (k0_pay152 x0 x1) (k0_pay30 (k0_pay154 x0 x1)) (k0_pay31 (k0_pay152 x0 x1) (k0_pay154 x0 x1)) (k0_pay32 (k0_pay154 x0 x1)) (k0_pay33 (k0_pay152 x0 x1)) (constant S2048x128 .f32 0x00000000#32)) (k0_pay82 (k0_pay173 x0 x1) (k0_pay174 x0 x1) (k0_pay175 x0 x1) (k0_pay176 x0 x1)) (k0_pay145 (k0_pay149 x0 x1) (k0_pay154 x0 x1) (k0_pay81 (k0_pay175 x0 x1) (k0_pay176 x0 x1)) (k0_pay179 x0 x1) (k0_pay201 x0 x1) (k0_pay140 (k0_pay149 x0 x1) (k0_pay79 (k0_pay173 x0 x1) (k0_pay175 x0 x1) (k0_pay176 x0 x1)) (k0_pay201 x0 x1) (k0_pay138 (k0_pay147 x0 x1) (k0_pay148 x0 x1) (k0_pay181 x0 x1) (k0_pay196 x0 x1) (k0_pay197 x0 x1) (k0_pay198 x0 x1) (k0_pay199 x0 x1)) (k0_pay139 (k0_pay147 x0 x1) (k0_pay148 x0 x1) (k0_pay181 x0 x1) (k0_pay196 x0 x1) (k0_pay197 x0 x1) (k0_pay198 x0 x1) (k0_pay199 x0 x1))) (k0_pay141 (k0_pay147 x0 x1) (k0_pay148 x0 x1) (k0_pay149 x0 x1) (k0_pay80 (k0_pay174 x0 x1) (k0_pay175 x0 x1) (k0_pay176 x0 x1)) (k0_pay197 x0 x1) (k0_pay200 x0 x1) (k0_pay201 x0 x1)) (k0_pay142 (k0_pay147 x0 x1) (k0_pay148 x0 x1) (k0_pay198 x0 x1) (k0_pay200 x0 x1)) (k0_pay143 (k0_pay147 x0 x1) (k0_pay148 x0 x1) (k0_pay198 x0 x1) (k0_pay200 x0 x1)) (Scalar.ofBits .f32 0x3D372713#32))
    = outB (wts x0 x1) (k0_pay154 x0 x1) := by
  rw [gate_1, wt0_1, wt1_1, wt2_1, sq_1, dev0_1, dev1_1, dev2_1]
  unfold k0_pay199 k0_pay201 k0_pay195 k0_pay194 k0_pay193 k0_pay192 k0_pay181
  rw [win_1, fold_1, idx0_1, idx1_1, idx2_1]
  rfl

end Cert.Stage

end
-- ==== Proof.Consts.lean ====
/- The literals of the two programs as real numbers, and the ways a real leaves and enters the extended reals. -/
module

public import Idealize.ShloMosaic.PureOps.Ideal

@[expose] public section

noncomputable section

namespace Cert.Consts

open Idealize.ShloMosaic

/-- The number added inside the logarithms of the entropy. -/
def e8 : ℝ := 11258999 / 1125899906842624
/-- The number added to a variance. -/
def e5 : ℝ := 2748779 / 274877906944
/-- The number added to the sum of squares. -/
def e6 : ℝ := 8796093 / 8796093022208
/-- The factor of the local path. -/
def beta : ℝ := 5033165 / 16777216
/-- The outer factor of the activation. -/
def g1 : ℝ := 6693141 / 8388608
/-- The cubic factor of the activation. -/
def g2 : ℝ := 12003091 / 268435456

/-- It is positive. -/
theorem e8_pos : 0 < e8 := by norm_num [e8]
/-- It is positive. -/
theorem e5_pos : 0 < e5 := by norm_num [e5]
/-- It is positive. -/
theorem e6_pos : 0 < e6 := by norm_num [e6]

/-- The literal 1e-8. -/
theorem c_e8 : Ideal.ofBits .f32 0x322BCC77#32 = (e8 : EReal) := by
  simp [Ideal.ofBits, Ideal.ieee, -EReal.coe_mul, e8]; norm_num
/-- The literal 1e-5. -/
theorem c_e5 : Ideal.ofBits .f32 0x3727C5AC#32 = (e5 : EReal) := by
  simp [Ideal.ofBits, Ideal.ieee, -EReal.coe_mul, e5]; norm_num
/-- The literal 1e-6. -/
theorem c_e6 : Ideal.ofBits .f32 0x358637BD#32 = (e6 : EReal) := by
  simp [Ideal.ofBits, Ideal.ieee, -EReal.coe_mul, e6]; norm_num
/-- The literal 0.3. -/
theorem c_beta : Ideal.ofBits .f32 0x3E99999A#32 = (beta : EReal) := by
  simp [Ideal.ofBits, Ideal.ieee, -EReal.coe_mul, beta]; norm_num
/-- The literal for the root of 2/π. -/
theorem c_g1 : Ideal.ofBits .f32 0x3F4C422A#32 = (g1 : EReal) := by
  simp [Ideal.ofBits, Ideal.ieee, -EReal.coe_mul, g1]; norm_num
/-- The literal 0.044715. -/
theorem c_g2 : Ideal.ofBits .f32 0x3D372713#32 = (g2 : EReal) := by
  simp [Ideal.ofBits, Ideal.ieee, -EReal.coe_mul, g2]; norm_num
/-- The literal 1/128. -/
theorem c_inv128 : Ideal.ofBits .f32 0x3C000000#32 = ((1 / 128 : ℝ) : EReal) := by
  simp [Ideal.ofBits, Ideal.ieee, -EReal.coe_mul]; norm_num
/-- The literal 1/64. -/
theorem c_inv64 : Ideal.ofBits .f32 0x3C800000#32 = ((1 / 64 : ℝ) : EReal) := by
  simp [Ideal.ofBits, Ideal.ieee, -EReal.coe_mul]; norm_num
/-- The literal 1/256. -/
theorem c_inv256 : Ideal.ofBits .f32 0x3B800000#32 = ((1 / 256 : ℝ) : EReal) := by
  simp [Ideal.ofBits, Ideal.ieee, -EReal.coe_mul]; norm_num
/-- The literal 2048. -/
theorem c_2048 : Ideal.ofBits .f32 0x45000000#32 = ((2048 : ℝ) : EReal) := by
  simp [Ideal.ofBits, Ideal.ieee, -EReal.coe_mul]; norm_num
/-- The literal 3. -/
theorem c_3 : Ideal.ofBits .f32 0x40400000#32 = ((3 : ℝ) : EReal) := by
  simp [Ideal.ofBits, Ideal.ieee, -EReal.coe_mul]; norm_num
/-- The literal 128. -/
theorem c_128 : Ideal.ofBits .f32 0x43000000#32 = ((128 : ℝ) : EReal) := by
  simp [Ideal.ofBits, Ideal.ieee, -EReal.coe_mul]; norm_num
/-- The literal 256. -/
theorem c_256 : Ideal.ofBits .f32 0x43800000#32 = ((256 : ℝ) : EReal) := by
  simp [Ideal.ofBits, Ideal.ieee, -EReal.coe_mul]; norm_num
/-- The literal 64. -/
theorem c_64 : Ideal.ofBits .f32 0x42800000#32 = ((64 : ℝ) : EReal) := by
  simp [Ideal.ofBits, Ideal.ieee, -EReal.coe_mul]; norm_num
/-- The literal 4. -/
theorem c_4 : Ideal.ofBits .f32 0x40800000#32 = ((4 : ℝ) : EReal) := by
  simp [Ideal.ofBits, Ideal.ieee, -EReal.coe_mul]; norm_num
/-- The literal 1/2. -/
theorem c_half : Ideal.ofBits .f32 0x3F000000#32 = ((1 / 2 : ℝ) : EReal) := by
  simp [Ideal.ofBits, Ideal.ieee, -EReal.coe_mul]; norm_num
/-- The literal 1. -/
theorem c_one : Ideal.ofBits .f32 0x3F800000#32 = ((1 : ℝ) : EReal) := by
  simp [Ideal.ofBits, Ideal.ieee, -EReal.coe_mul]; norm_num
/-- The literal 0. -/
theorem c_zero : Ideal.ofBits .f32 0x00000000#32 = ((0 : ℝ) : EReal) := by
  simp [Ideal.ofBits, Ideal.ieee, -EReal.coe_mul]
/-- The literal 0 in the shorter format. -/
theorem c_zero16 : Ideal.ofBits .bf16 0x0000#16 = ((0 : ℝ) : EReal) := by
  simp [Ideal.ofBits, Ideal.ieee, -EReal.coe_mul]
/-- The literal minus infinity. -/
theorem c_bot : Ideal.ofBits .f32 0xFF800000#32 = (⊥ : EReal) := by
  simp [Ideal.ofBits, Ideal.ieee]

/-! ### Reals among the extended reals -/

/-- A choice between reals is a real. -/
theorem coe_ite {P : Prop} [Decidable P] (a b : ℝ) :
    (if P then (a : EReal) else (b : EReal)) = ((if P then a else b : ℝ) : EReal) := by
  by_cases h : P <;> simp [h]

/-- The same for a choice whose branches may use the condition. -/
theorem coe_dite {P : Prop} [Decidable P] (a b : ℝ) :
    (if _ : P then (a : EReal) else (b : EReal)) = ((if P then a else b : ℝ) : EReal) := by
  by_cases h : P <;> simp [h]

/-- A sum of reals is a real. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum over the indices below `n` of reals, as a sum over a range. -/
theorem sum_fin {n : ℕ} (f : ℕ → ℝ) : ∑ i : Fin n, ((f i : ℝ) : EReal) = ((∑ i ∈ Finset.range n, f i : ℝ) : EReal) := by
  rw [coe_sum, Fin.sum_univ_eq_sum_range]

/-- A maximum of reals is a real. -/
theorem coe_max (a b : ℝ) : max (a : EReal) (b : EReal) = ((max a b : ℝ) : EReal) := (EReal.coe_strictMono.monotone.map_max).symm
/-- A minimum of reals is a real. -/
theorem coe_min (a b : ℝ) : min (a : EReal) (b : EReal) = ((min a b : ℝ) : EReal) := (EReal.coe_strictMono.monotone.map_min).symm

/-- A quotient by a real other than zero is the real quotient. -/
theorem div_real (a : ℝ) {b : ℝ} (h : b ≠ 0) : Ideal.div (a : EReal) (b : EReal) = ((a / b : ℝ) : EReal) := by
  rw [Ideal.div_coe h, ← EReal.coe_mul, mul_one_div]

/-- The logarithm of a positive real is the real logarithm. -/
theorem log_real {a : ℝ} (h : 0 < a) : Ideal.log (a : EReal) = ((Real.log a : ℝ) : EReal) := by
  rw [Ideal.log_coe, if_neg (not_le.mpr h)]

/-- The root of a real that is not negative is the real root. -/
theorem sqrt_real {a : ℝ} (h : 0 ≤ a) : Ideal.sqrt (a : EReal) = ((Real.sqrt a : ℝ) : EReal) := by
  rw [Ideal.sqrt_coe, if_neg (not_lt.mpr h)]

/-- The inverse root of a positive real is the inverse of the real root. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

end Cert.Consts

end
-- ==== Proof.Spec.lean ====
/- The result as a function of real numbers: what the two programs compute, one batch at a time. Times, channels, lags,
   cycles and taps are natural numbers. -/
module

public import proofs.«01_k».proof.Proof.Consts

@[expose] public section

noncomputable section

namespace Cert.Spec

open Cert.Consts Finset

/-- The weights: the taps of the period section, the norm's scale and shift, the residual scale, the pointwise and the
    gate matrices (output, input), the local taps and the local pointwise matrix. -/
structure RW where
  dw : ℕ → ℕ → ℝ
  gam : ℕ → ℝ
  bet : ℕ → ℝ
  res : ℕ → ℝ
  pw : ℕ → ℕ → ℝ
  gt : ℕ → ℕ → ℝ
  ldw : ℕ → ℕ → ℝ
  lpw : ℕ → ℕ → ℝ

/-- The circular autocorrelation at a lag, the mean over the channels. -/
def acorr (X : ℕ → ℕ → ℝ) (l : ℕ) : ℝ := (∑ c ∈ range 128, ∑ t ∈ range 2048, X t c * X ((t + l) % 2048) c) / 128

/-- The least place of the greatest value over a set of places. -/
def best (f : ℕ → ℝ) (S : Finset ℕ) : ℕ := sInf {i | i ∈ S ∧ ∀ j ∈ S, f j ≤ f i}

/-- The lags that are looked at. -/
def lags : Finset ℕ := Icc 32 128

/-- The three periods: the lags of the three greatest values, the lower lag first among equals. -/
def p0 (r : ℕ → ℝ) : ℕ := best r lags
/-- The second lag. -/
def p1 (r : ℕ → ℝ) : ℕ := best r (lags.erase (p0 r))
/-- The third lag. -/
def p2 (r : ℕ → ℝ) : ℕ := best r ((lags.erase (p0 r)).erase (p1 r))

/-- The greatest of three numbers, and the softmax of three numbers at one of them. -/
def max3 (a b c : ℝ) : ℝ := max (max a b) c
/-- The softmax weight of one of three values. -/
def soft (a b c x : ℝ) : ℝ :=
  Real.exp (x - max3 a b c) / (Real.exp (a - max3 a b c) + Real.exp (b - max3 a b c) + Real.exp (c - max3 a b c))

/-- The first weight. -/
def w0 (r : ℕ → ℝ) : ℝ := soft (r (p0 r)) (r (p1 r)) (r (p2 r)) (r (p0 r))
/-- The second weight. -/
def w1 (r : ℕ → ℝ) : ℝ := soft (r (p0 r)) (r (p1 r)) (r (p2 r)) (r (p1 r))
/-- The third weight. -/
def w2 (r : ℕ → ℝ) : ℝ := soft (r (p0 r)) (r (p1 r)) (r (p2 r)) (r (p2 r))

/-- The logistic function. -/
def sig (x : ℝ) : ℝ := (1 + Real.exp (-x))⁻¹

/-- The gate of three weights: how far their entropy is from the greatest one. -/
def gateR (a b c : ℝ) : ℝ :=
  sig (4 * (min 1 (max 0 (1 - -(a * Real.log (a + e8) + b * Real.log (b + e8) + c * Real.log (c + e8))
    / (Real.log (3 + e8) + e8))) - 1 / 2))

/-- The activation in its tanh form. -/
def gelu (y : ℝ) : ℝ := y * (1 / 2 * (1 + Real.tanh (g1 * (y + g2 * (y * y * y)))))

/-- The length padded up to whole periods. -/
def tpad (p : ℕ) : ℕ := (2048 + p - 1) / p * p
/-- The reflection of a time at the end. -/
def rf (n : ℕ) : ℕ := if n % 4094 < 2048 then n % 4094 else 4094 - n % 4094
/-- The mean of a cycle: a sum over the places of the cycle, divided by the greatest period. -/
def cyc (X : ℕ → ℕ → ℝ) (p l c : ℕ) : ℝ :=
  (∑ s ∈ range 128, if s < p ∧ l * p + s < tpad p then X (rf (l * p + s)) c else 0) / 128

section
variable (W : RW) (U : ℕ → ℕ → ℝ)
/-- The depthwise convolution over the cycles, the pointwise one over the channels. -/
def dconv (l c : ℕ) : ℝ := ∑ j ∈ range 9, (if 4 ≤ l + j ∧ l + j < 68 then U (l + j - 4) c else 0) * W.dw j c
/-- The pointwise convolution over the channels. -/
def pconv (l o : ℕ) : ℝ := ∑ c ∈ range 128, dconv W U l c * W.pw o c
/-- The mean and the variance of a channel's group of four. -/
def mu (o : ℕ) : ℝ := (∑ a ∈ range 4, ∑ l ∈ range 64, pconv W U l (o / 4 * 4 + a)) / 256
/-- The variance of a channel's group. -/
def var (o : ℕ) : ℝ :=
  (∑ a ∈ range 4, ∑ l ∈ range 64, (pconv W U l (o / 4 * 4 + a) - mu W U o) * (pconv W U l (o / 4 * 4 + a) - mu W U o)) / 256
/-- The group norm. -/
def gnorm (l o : ℕ) : ℝ := (pconv W U l o - mu W U o) / Real.sqrt (var W U o + e5) * W.gam o + W.bet o
/-- The gate of a channel. -/
def cgate (o : ℕ) : ℝ := sig (∑ c ∈ range 128, (∑ l ∈ range 64, U l c) / 64 * W.gt o c)
/-- What the period section adds to the places of a cycle. -/
def add (l o : ℕ) : ℝ := gelu (gnorm W U l o) * cgate W U o * W.res o
end

/-- The periodic path: the weighted sum over the three periods. -/
def peri (W : RW) (X : ℕ → ℕ → ℝ) (t o : ℕ) : ℝ :=
  let r := acorr X
  (X t o + add W (cyc X (p0 r)) (t / p0 r) o) * w0 r + (X t o + add W (cyc X (p1 r)) (t / p1 r) o) * w1 r
    + (X t o + add W (cyc X (p2 r)) (t / p2 r) o) * w2 r

/-- The local path. -/
def lconv (W : RW) (X : ℕ → ℕ → ℝ) (t c : ℕ) : ℝ :=
  ∑ j ∈ range 7, (if 3 ≤ t + j ∧ t + j < 2051 then X (t + j - 3) c else 0) * W.ldw j c
/-- The pointwise convolution of the local path. -/
def lmix (W : RW) (X : ℕ → ℕ → ℝ) (t o : ℕ) : ℝ := ∑ c ∈ range 128, lconv W X t c * W.lpw o c
/-- The local path. -/
def local_ (W : RW) (X : ℕ → ℕ → ℝ) (t o : ℕ) : ℝ := gelu (lmix W X t o)

/-- The result from the two paths and the gate. -/
def fuse (X L P : ℕ → ℕ → ℝ) (g : ℝ) (t o : ℕ) : ℝ :=
  X t o + (g * P t o + (1 - g) * beta * (L t o
    - (∑ s ∈ range 2048, L s o * P s o) / ((∑ s ∈ range 2048, P s o * P s o) + e6) * P t o))

/-- The result of a batch. -/
def out (W : RW) (X : ℕ → ℕ → ℝ) : ℕ → ℕ → ℝ :=
  fuse X (local_ W X) (peri W X) (gateR (w0 (acorr X)) (w1 (acorr X)) (w2 (acorr X)))

/-! ### The places of the greatest values -/

/-- The best place is in the set, and no value there is greater. -/
theorem best_spec (f : ℕ → ℝ) {S : Finset ℕ} (h : S.Nonempty) : best f S ∈ S ∧ ∀ j ∈ S, f j ≤ f (best f S) := by
  obtain ⟨i, hi, hm⟩ := S.exists_max_image f h
  exact Nat.sInf_mem (s := {i | i ∈ S ∧ ∀ j ∈ S, f j ≤ f i}) ⟨i, hi, hm⟩

/-- The best place is at most any place of a greatest value. -/
theorem best_le (f : ℕ → ℝ) {S : Finset ℕ} {i : ℕ} (hi : i ∈ S) (hm : ∀ j ∈ S, f j ≤ f i) : best f S ≤ i :=
  Nat.sInf_le (s := {i | i ∈ S ∧ ∀ j ∈ S, f j ≤ f i}) ⟨hi, hm⟩

/-- A place of a greatest value with every earlier value smaller is the least one. -/
theorem best_eq (f : ℕ → ℝ) {S : Finset ℕ} {i : ℕ} (hi : i ∈ S) (hm : ∀ j ∈ S, f j ≤ f i)
    (hl : ∀ j ∈ S, j < i → f j < f i) : best f S = i := by
  refine le_antisymm (best_le f hi hm) (not_lt.mp fun h => ?_)
  obtain ⟨hb, hbm⟩ := best_spec f ⟨i, hi⟩
  exact absurd (hbm i hi) (not_le.mpr (hl _ hb h))

/-- There is a lag. -/
theorem lags_nonempty : lags.Nonempty := ⟨32, by simp [lags]⟩
/-- There is a lag after one is taken. -/
theorem lags1_nonempty (a : ℕ) : (lags.erase a).Nonempty := by
  by_cases h : a = 32
  · exact ⟨33, by simp [lags, h]⟩
  · exact ⟨32, by simp [lags]; omega⟩
/-- There is a lag after two are taken. -/
theorem lags2_nonempty (a b : ℕ) : ((lags.erase a).erase b).Nonempty := by
  by_cases h : a ≠ 32 ∧ b ≠ 32
  · exact ⟨32, by simp [lags]; omega⟩
  · by_cases h' : a ≠ 33 ∧ b ≠ 33
    · exact ⟨33, by simp [lags]; omega⟩
    · exact ⟨34, by simp [lags]; omega⟩

/-- The first lag is a lag. -/
theorem p0_mem (r : ℕ → ℝ) : p0 r ∈ lags := (best_spec r lags_nonempty).1
/-- The second lag is a lag other than the first. -/
theorem p1_mem (r : ℕ → ℝ) : p1 r ∈ lags.erase (p0 r) := (best_spec r (lags1_nonempty _)).1
/-- The third lag is a lag other than the first two. -/
theorem p2_mem (r : ℕ → ℝ) : p2 r ∈ (lags.erase (p0 r)).erase (p1 r) := (best_spec r (lags2_nonempty _ _)).1

/-- The first lag is in the range. -/
theorem p0_rng (r : ℕ → ℝ) : 32 ≤ p0 r ∧ p0 r ≤ 128 := by simpa [lags] using p0_mem r
/-- The second lag is in the range. -/
theorem p1_rng (r : ℕ → ℝ) : 32 ≤ p1 r ∧ p1 r ≤ 128 := by
  have := p1_mem r; simp only [lags, mem_erase, mem_Icc] at this; exact this.2
/-- The third lag is in the range. -/
theorem p2_rng (r : ℕ → ℝ) : 32 ≤ p2 r ∧ p2 r ≤ 128 := by
  have := p2_mem r; simp only [lags, mem_erase, mem_Icc] at this; exact this.2.2

/-- A softmax weight is positive. -/
theorem soft_pos (a b c x : ℝ) : 0 < soft a b c x := by unfold soft; positivity

/-- Three softmax weights add up to one. -/
theorem soft_sum (a b c : ℝ) : soft a b c a + soft a b c b + soft a b c c = 1 := by
  have h : Real.exp (a - max3 a b c) + Real.exp (b - max3 a b c) + Real.exp (c - max3 a b c) ≠ 0 := by positivity
  unfold soft; field_simp

/-- The weights of a batch add up to one. -/
theorem w_sum (r : ℕ → ℝ) : w0 r + w1 r + w2 r = 1 := soft_sum _ _ _

/-- The divisor of the entropy is not zero. -/
theorem ent_ne : Real.log (3 + e8) + e8 ≠ 0 := by
  have h : 0 ≤ Real.log (3 + e8) := Real.log_nonneg (by have := e8_pos; linarith)
  have := e8_pos
  linarith

/-- A variance is not negative. -/
theorem var_nonneg (W : RW) (U : ℕ → ℕ → ℝ) (o : ℕ) : 0 ≤ var W U o :=
  div_nonneg (sum_nonneg fun _ _ => sum_nonneg fun _ _ => mul_self_nonneg _) (by norm_num)

end Cert.Spec

end
-- ==== Proof.Words.lean ====
/- The 32-bit words that stand for small natural numbers: arithmetic, comparisons, and the floats read from them. -/
module

public import Idealize.ShloMosaic.Lib.WordCmp
public import Idealize.ShloMosaic.Lib.Routing.Words
public import proofs.«01_k».proof.Proof.Consts

@[expose] public section

noncomputable section

namespace Cert.Words

open Idealize.ShloMosaic Idealize.ShloMosaic.WordCmp Idealize.ShloMosaic.Routing

/-- The word of a natural number. -/
abbrev wd (n : ℕ) : BitVec 32 := BitVec.ofNat 32 n

/-- The bit of a decided fact. -/
abbrev bt (p : Prop) [Decidable p] : BitVec 1 := BitVec.ofBool (decide p)

variable {a b : ℕ}

/-- Less than, on small numbers. -/
theorem slt_w (ha : a < 2147483648) (hb : b < 2147483648) : IntOp.cmpi .slt (BitVec.ofNat 32 a) (BitVec.ofNat 32 b) = bt (a < b) :=
  cmpi_slt_ofNat (by omega) (by omega)
/-- At most, on small numbers. -/
theorem sle_w (ha : a < 2147483648) (hb : b < 2147483648) : IntOp.cmpi .sle (BitVec.ofNat 32 a) (BitVec.ofNat 32 b) = bt (a ≤ b) :=
  cmpi_sle_ofNat (by omega) (by omega)
/-- Greater than, on small numbers. -/
theorem sgt_w (ha : a < 2147483648) (hb : b < 2147483648) : IntOp.cmpi .sgt (BitVec.ofNat 32 a) (BitVec.ofNat 32 b) = bt (b < a) :=
  cmpi_sgt_ofNat (by omega) (by omega)
/-- At least, on small numbers. -/
theorem sge_w (ha : a < 2147483648) (hb : b < 2147483648) : IntOp.cmpi .sge (BitVec.ofNat 32 a) (BitVec.ofNat 32 b) = bt (b ≤ a) :=
  cmpi_sge_ofNat (by omega) (by omega)
/-- Equality, on small numbers. -/
theorem eq_w (ha : a < 2147483648) (hb : b < 2147483648) : IntOp.cmpi .eq (BitVec.ofNat 32 a) (BitVec.ofNat 32 b) = bt (a = b) :=
  cmpi_eq_ofNat (by omega) (by omega)
/-- Inequality, on small numbers. -/
theorem ne_w (ha : a < 2147483648) (hb : b < 2147483648) : IntOp.cmpi .ne (BitVec.ofNat 32 a) (BitVec.ofNat 32 b) = bt (a ≠ b) :=
  cmpi_ne_ofNat (by omega) (by omega)

/-- Addition. -/
theorem add_w (a b : ℕ) : IntOp.addi (BitVec.ofNat 32 a) (BitVec.ofNat 32 b) = BitVec.ofNat 32 (a + b) := addi_ofNat a b
/-- Multiplication. -/
theorem mul_w (a b : ℕ) : IntOp.muli (BitVec.ofNat 32 a) (BitVec.ofNat 32 b) = BitVec.ofNat 32 (a * b) := muli_ofNat a b
/-- Subtraction of a smaller number. -/
theorem sub_w (ha : a < 2147483648) (h : b ≤ a) : IntOp.subi (BitVec.ofNat 32 a) (BitVec.ofNat 32 b) = BitVec.ofNat 32 (a - b) := by
  show BitVec.ofNat 32 a - BitVec.ofNat 32 b = _
  apply BitVec.eq_of_toNat_eq
  simp only [BitVec.toNat_sub, BitVec.toNat_ofNat]
  omega
/-- Division of small numbers. -/
theorem div_w (u : ArithUnit) (ha : a < 2147483648) (h0 : 0 < b) (hb : b < 2147483648) :
    IntOp.divsi u (BitVec.ofNat 32 a) (BitVec.ofNat 32 b) = BitVec.ofNat 32 (a / b) := divsi_word u ha h0 hb
/-- The remainder of small numbers. -/
theorem rem_w (u : ArithUnit) (ha : a < 2147483648) (h0 : 0 < b) (hb : b < 2147483648) :
    IntOp.remsi u (BitVec.ofNat 32 a) (BitVec.ofNat 32 b) = BitVec.ofNat 32 (a % b) := remsi_word u ha h0 hb

/-- The greater of small numbers. -/
theorem max_w (ha : a < 2147483648) (hb : b < 2147483648) :
    IntOp.maxsi (BitVec.ofNat 32 a) (BitVec.ofNat 32 b) = BitVec.ofNat 32 (max a b) := by
  unfold IntOp.maxsi
  rw [slt_ofNat32 (by omega) (by omega)]
  by_cases h : b < a
  · rw [if_pos (by simpa using h), max_eq_left h.le]
  · rw [if_neg (by simpa using h), max_eq_right (not_lt.mp h)]
/-- The smaller of small numbers. -/
theorem min_w (ha : a < 2147483648) (hb : b < 2147483648) :
    IntOp.minsi (BitVec.ofNat 32 a) (BitVec.ofNat 32 b) = BitVec.ofNat 32 (min a b) := by
  unfold IntOp.minsi
  rw [slt_ofNat32 (by omega) (by omega)]
  by_cases h : a < b
  · rw [if_pos (by simpa using h), min_eq_left h.le]
  · rw [if_neg (by simpa using h), min_eq_right (not_lt.mp h)]

/-- The low six bits of a word are its remainder by 64. -/
theorem and63_w (ha : a < 2147483648) : IntOp.andi (BitVec.ofNat 32 a) 63#32 = BitVec.ofNat 32 (a % 64) := by
  apply BitVec.eq_of_toNat_eq
  show (BitVec.ofNat 32 a &&& 63#32).toNat = _
  simp only [BitVec.toNat_and, BitVec.toNat_ofNat]
  rw [show (63 % 2 ^ 32 : ℕ) = 2 ^ 6 - 1 by norm_num, Nat.and_two_pow_sub_one_eq_mod]
  omega

variable {p q : Prop} [Decidable p] [Decidable q]

/-- The conjunction of two truth words. -/
theorem and_b : IntOp.andi (bt p) (bt q) = bt (p ∧ q) := by
  by_cases hp : p <;> by_cases hq : q <;> simp [hp, hq] <;> decide
/-- The difference of two truth words. -/
theorem ne_b : IntOp.cmpi .ne (bt p) (bt q) = bt (¬(p ↔ q)) := by
  by_cases hp : p <;> by_cases hq : q <;> simp [hp, hq] <;> decide
/-- A choice by a truth word. -/
theorem sel_b {α : Type} (x y : α) : Scalar.select (bt p) x y = if p then x else y := by
  by_cases hp : p
  · rw [if_pos hp, bt, decide_eq_true hp]; rfl
  · rw [if_neg hp, bt, decide_eq_false hp]; rfl

/-- The float of a small number. -/
theorem fl_w (ha : a < 2147483648) : FloatOps.sitofp (F := Ideal) .f32 (BitVec.ofNat 32 a) = ((a : ℝ) : EReal) := by
  show (((BitVec.ofNat 32 a).toInt : ℝ) : EReal) = _
  rw [WordCmp.toInt_ofNat_of_lt (by omega)]
  norm_cast
/-- The float of a truth word, widened. -/
theorem fl_b : FloatOps.sitofp (F := Ideal) .f32 (BitVec.setWidth 32 (bt p)) = ((if p then 1 else 0 : ℝ) : EReal) := by
  by_cases hp : p
  · simp only [hp, decide_true, if_true]
    exact (fl_w (a := 1) (by norm_num)).trans (by norm_num)
  · simp only [hp, decide_false, if_false]
    exact (fl_w (a := 0) (by norm_num)).trans (by norm_num)
/-- The float of a truth word. -/
theorem ufl_b : FloatOps.uitofp (F := Ideal) .f32 (bt p) = ((if p then 1 else 0 : ℝ) : EReal) := by
  by_cases hp : p
  · simp only [hp, decide_true, if_true]
    show (((BitVec.ofBool true).toNat : ℝ) : EReal) = _
    rw [show (BitVec.ofBool true).toNat = 1 from rfl]
    norm_num
  · simp only [hp, decide_false, if_false]
    show (((BitVec.ofBool false).toNat : ℝ) : EReal) = _
    norm_num

/-- The sign of a word. -/
theorem sign_w (ha : a < 2147483648) :
    (if BitVec.ofNat 32 a = 0 then 0 else if (BitVec.ofNat 32 a).msb = true then -1 else 1 : BitVec 32) = BitVec.ofNat 32 (if a = 0 then 0 else 1) := by
  have h0 : BitVec.ofNat 32 a = 0 ↔ a = 0 := by
    constructor
    · intro h
      have := congrArg BitVec.toNat h
      simp only [BitVec.toNat_ofNat] at this
      have h' : a % 2 ^ 32 = 0 := this
      omega
    · rintro rfl; rfl
  have hm : (BitVec.ofNat 32 a).msb = false := by
    rw [BitVec.msb_eq_false_iff_two_mul_lt, BitVec.toNat_ofNat]
    omega
  by_cases h : a = 0
  · rw [if_pos (h0.mpr h), if_pos h]; rfl
  · rw [if_neg (fun h' => h (h0.mp h')), if_neg h, hm]; rfl

/-- The quotient that rounds down, as it is spelled with the signs and the remainder. -/
theorem fdiv_w (ha : a < 2147483648) (h0 : 0 < b) (hb : b < 2147483648) :
    Scalar.select
      (IntOp.andi
        (IntOp.cmpi .ne (if BitVec.ofNat 32 a = 0 then 0 else if (BitVec.ofNat 32 a).msb = true then -1 else 1 : BitVec 32)
          (if BitVec.ofNat 32 b = 0 then 0 else if (BitVec.ofNat 32 b).msb = true then -1 else 1 : BitVec 32))
        (IntOp.cmpi .ne (IntOp.remsi .host (BitVec.ofNat 32 a) (BitVec.ofNat 32 b)) 0#32))
      (IntOp.subi (IntOp.divsi .host (BitVec.ofNat 32 a) (BitVec.ofNat 32 b)) 1#32)
      (IntOp.divsi .host (BitVec.ofNat 32 a) (BitVec.ofNat 32 b)) = BitVec.ofNat 32 (a / b) := by
  have hm : a % b < b := Nat.mod_lt _ h0
  rw [sign_w ha, sign_w hb, rem_w _ ha h0 hb, div_w _ ha h0 hb, ne_w (by split_ifs <;> omega) (by split_ifs <;> omega),
    show (0#32) = BitVec.ofNat 32 0 from rfl, ne_w (by omega) (by omega), and_b, sel_b, if_neg]
  rintro ⟨h1, h2⟩
  have : a ≠ 0 := by rintro rfl; exact h2 (Nat.zero_mod b)
  rw [if_neg this, if_neg (by omega)] at h1
  exact h1 rfl

/-- A choice between two words of numbers. -/
theorem if_w (x y : ℕ) : (if p then BitVec.ofNat 32 x else BitVec.ofNat 32 y) = BitVec.ofNat 32 (if p then x else y) := by
  by_cases hp : p <;> simp [hp]

end Cert.Words

end
-- ==== Proof.KGram.lean ====
/- The block products of a batch with itself, and the autocorrelation read off them by turning rows. -/
module

public import proofs.«01_k».proof.Proof.Stages
public import proofs.«01_k».proof.Proof.Spec
public import proofs.«01_k».proof.Proof.Words
public import Idealize.ShloMosaic.Lib.Pointwise

@[expose] public section

set_option maxRecDepth 16384

noncomputable section

namespace Cert.KGram

open Idealize.ShloMosaic Idealize.SL.Sem
open Cert.KernelIdeal Cert.KernelIdeal.Gen Cert.Stage Cert.Consts Cert.Words

/-! ### The block products -/

/-- The product of row `i` of block `b` with the row `j` places after the start of the block. -/
def gb (X : ℕ → ℕ → ℝ) (b i j : ℕ) : ℝ := ∑ c ∈ Finset.range 128, X (128 * b + i) c * X ((128 * b + j) % 2048) c
/-- The sum over the sixteen blocks. -/
def gr (X : ℕ → ℕ → ℝ) (i j : ℕ) : ℝ := ∑ b ∈ Finset.range 16, gb X b i j

section
variable {A : FVec Ideal S2048x128 .f32} {X : ℕ → ℕ → ℝ}
  (hA : ∀ (i : Fin 2048) (j : Fin 128), A (ix2 i j) = ((X i j : ℝ) : EReal))
include hA

/-- The batch followed by its first block: times are read round the end. -/
theorem wrap_ap (i : Fin 2176) (j : Fin 128) : k0_pay19 A (ix2 i j) = ((X (i % 2048) j : ℝ) : EReal) := by
  have := i.2
  pointwise [k0_pay19]
  simp only [hA, coe_dite]
  congr 1
  by_cases h1 : (i : ℕ) < 2048
  · rw [if_pos h1]; congr 1; omega
  · rw [if_neg h1]; congr 1; omega

/-- The sum of the block products at an entry. -/
theorem gram_ap (i : Fin 128) (j : Fin 256) : gram A (ix2 i j) = ((gr X i j : ℝ) : EReal) := by
  pointwise [gram, k0_pay20, k0_pay21, k0_pay22, k0_pay23, k0_pay24]
  simp only [hA, wrap_ap hA, ← EReal.coe_mul, ← EReal.coe_add, coe_sum]
  congr 1
  unfold gr
  simp only [Finset.sum_range_succ, Finset.sum_range_zero]
  simp only [gb, Finset.sum_range, Nat.reduceMul, zero_add]
  ring

end

/-! ### Turning rows -/

/-- Whether a bit of a row number is set. -/
theorem bits (i : Fin 128) :
    IntOp.cmpi .ne (IntOp.andi (BitVec.ofNat 32 i) 1#32) 0#32 = bt ((i : ℕ) % 2 = 1)
    ∧ IntOp.cmpi .ne (IntOp.andi (BitVec.ofNat 32 i) 2#32) 0#32 = bt ((i : ℕ) / 2 % 2 = 1)
    ∧ IntOp.cmpi .ne (IntOp.andi (BitVec.ofNat 32 i) 4#32) 0#32 = bt ((i : ℕ) / 4 % 2 = 1)
    ∧ IntOp.cmpi .ne (IntOp.andi (BitVec.ofNat 32 i) 8#32) 0#32 = bt ((i : ℕ) / 8 % 2 = 1)
    ∧ IntOp.cmpi .ne (IntOp.andi (BitVec.ofNat 32 i) 16#32) 0#32 = bt ((i : ℕ) / 16 % 2 = 1)
    ∧ IntOp.cmpi .ne (IntOp.andi (BitVec.ofNat 32 i) 32#32) 0#32 = bt ((i : ℕ) / 32 % 2 = 1)
    ∧ IntOp.cmpi .ne (IntOp.andi (BitVec.ofNat 32 i) 64#32) 0#32 = bt ((i : ℕ) / 64 % 2 = 1) := by
  revert i; decide

/-- Turned rows where the given bit of the row number is set, the rows as they are elsewhere. -/
def pick (m : BitVec 32) (R V : FVec Ideal S128x256 .f32) : FVec Ideal S128x256 .f32 :=
  select (cmpi .ne (andi rowI (broadcast S128x256 m)) (broadcast S128x256 0#32)) R V

/-- The rows turned by 4, 8, 16, 32 and 64 places where that bit is set. -/
def turn4 (V : FVec Ideal S128x256 .f32) : FVec Ideal S128x256 .f32 :=
  pick 4#32 (concatenate S128x256 1 [⟨S128x252, extractStridedSlice S128x252 ![0, 4] V slices_S128x256_o0_4_S128x252⟩,
    ⟨S128x4, extractStridedSlice S128x4 ![0, 0] V slices_S128x256_o0_0_S128x4⟩] concatenates_S128x252_S128x4_S128x256_d1) V
/-- The same by eight columns. -/
def turn8 (V : FVec Ideal S128x256 .f32) : FVec Ideal S128x256 .f32 :=
  pick 8#32 (concatenate S128x256 1 [⟨S128x248, extractStridedSlice S128x248 ![0, 8] V slices_S128x256_o0_8_S128x248⟩,
    ⟨S128x8, extractStridedSlice S128x8 ![0, 0] V slices_S128x256_o0_0_S128x8⟩] concatenates_S128x248_S128x8_S128x256_d1) V
/-- The same by sixteen columns. -/
def turn16 (V : FVec Ideal S128x256 .f32) : FVec Ideal S128x256 .f32 :=
  pick 16#32 (concatenate S128x256 1 [⟨S128x240, extractStridedSlice S128x240 ![0, 16] V slices_S128x256_o0_16_S128x240⟩,
    ⟨S128x16, extractStridedSlice S128x16 ![0, 0] V slices_S128x256_o0_0_S128x16⟩] concatenates_S128x240_S128x16_S128x256_d1) V
/-- The same by thirty-two columns. -/
def turn32 (V : FVec Ideal S128x256 .f32) : FVec Ideal S128x256 .f32 :=
  pick 32#32 (concatenate S128x256 1 [⟨S128x224, extractStridedSlice S128x224 ![0, 32] V slices_S128x256_o0_32_S128x224⟩,
    ⟨S128x32, extractStridedSlice S128x32 ![0, 0] V slices_S128x256_o0_0_S128x32⟩] concatenates_S128x224_S128x32_S128x256_d1) V
/-- The same by sixty-four columns. -/
def turn64 (V : FVec Ideal S128x256 .f32) : FVec Ideal S128x256 .f32 :=
  pick 64#32 (concatenate S128x256 1 [⟨S128x192, extractStridedSlice S128x192 ![0, 64] V slices_S128x256_o0_64_S128x192⟩,
    ⟨S128x64, extractStridedSlice S128x64 ![0, 0] V slices_S128x256_o0_0_S128x64⟩] concatenates_S128x192_S128x64_S128x256_d1) V

/-- The rows summed, divided by the number of channels. -/
def rowsum (V : FVec Ideal S128x256 .f32) : FVec Ideal S1x256 .f32 :=
  mulf (shapeCast S1x256 (multiReduction .add [0] S256 V 0x00000000#32 reduces_S128x256_S256 (.inl rfl) rfl) shapeCasts_S256_S1x256)
    (broadcast S1x256 (Scalar.ofBits .f32 0x3C000000#32))

/-- The autocorrelation row is the seven turns and a sum over the rows. -/
theorem autoc_split (S : FVec Ideal S128x256 .f32) :
    autoc S = rowsum (turn64 (turn32 (turn16 (turn8 (turn4 (k0_pay35 S)))))) := rfl

/-- Row `i` of `V` is row `i` of `g` turned by the remainder of `i` modulo `m`. -/
def Turned (V : FVec Ideal S128x256 .f32) (g : ℕ → ℕ → ℝ) (m : ℕ) : Prop :=
  ∀ (i : Fin 128) (j : Fin 256), V (ix2 i j) = ((g i ((j + i % m) % 256) : ℝ) : EReal)

variable {V : FVec Ideal S128x256 .f32} {g : ℕ → ℕ → ℝ}

/-- The first two rounds turn by the two lowest bits of the row. -/
theorem turned_first (h : Turned V g 1) : Turned (k0_pay35 V) g 4 := by
  intro i j
  have := i.2; have := j.2
  obtain ⟨b1, b2, -⟩ := bits i
  pointwise [k0_pay35]
  simp only [b1, b2, h _ _, sel_b, coe_dite, coe_ite]
  congr 1
  split_ifs <;> (congr 1; omega)

/-- The round of four columns. -/
theorem turned_4 (h : Turned V g 4) : Turned (turn4 V) g 8 := by
  intro i j
  have := i.2; have := j.2
  obtain ⟨-, -, b, -⟩ := bits i
  pointwise [turn4, pick, rowI]
  simp only [b, h _ _, sel_b, coe_dite, coe_ite]
  congr 1
  split_ifs <;> (congr 1; omega)

/-- The round of eight columns. -/
theorem turned_8 (h : Turned V g 8) : Turned (turn8 V) g 16 := by
  intro i j
  have := i.2; have := j.2
  obtain ⟨-, -, -, b, -⟩ := bits i
  pointwise [turn8, pick, rowI]
  simp only [b, h _ _, sel_b, coe_dite, coe_ite]
  congr 1
  split_ifs <;> (congr 1; omega)

/-- The round of sixteen columns. -/
theorem turned_16 (h : Turned V g 16) : Turned (turn16 V) g 32 := by
  intro i j
  have := i.2; have := j.2
  obtain ⟨-, -, -, -, b, -⟩ := bits i
  pointwise [turn16, pick, rowI]
  simp only [b, h _ _, sel_b, coe_dite, coe_ite]
  congr 1
  split_ifs <;> (congr 1; omega)

/-- The round of thirty-two columns. -/
theorem turned_32 (h : Turned V g 32) : Turned (turn32 V) g 64 := by
  intro i j
  have := i.2; have := j.2
  obtain ⟨-, -, -, -, -, b, -⟩ := bits i
  pointwise [turn32, pick, rowI]
  simp only [b, h _ _, sel_b, coe_dite, coe_ite]
  congr 1
  split_ifs <;> (congr 1; omega)

/-- The round of sixty-four columns. -/
theorem turned_64 (h : Turned V g 64) : Turned (turn64 V) g 128 := by
  intro i j
  have := i.2; have := j.2
  obtain ⟨-, -, -, -, -, -, b⟩ := bits i
  pointwise [turn64, pick, rowI]
  simp only [b, h _ _, sel_b, coe_dite, coe_ite]
  congr 1
  split_ifs <;> (congr 1; omega)

/-- The mean over the turned rows. -/
theorem rowsum_ap (h : Turned V g 128) (j : Fin 256) :
    rowsum V (ix2 0 j) = (((∑ i ∈ Finset.range 128, g i ((j + i % 128) % 256)) * (1 / 128) : ℝ) : EReal) := by
  rw [Finset.sum_range]
  pointwise [rowsum]
  simp only [h _ _, c_inv128, coe_sum, ← EReal.coe_mul]

/-! ### The autocorrelation -/

/-- A sum over `128 n` places as a sum over `n` blocks. -/
theorem blocks (f : ℕ → ℝ) (n : ℕ) :
    ∑ t ∈ Finset.range (128 * n), f t = ∑ b ∈ Finset.range n, ∑ i ∈ Finset.range 128, f (128 * b + i) := by
  induction n with
  | zero => simp
  | succ n ih => rw [Nat.mul_succ, Finset.sum_range_add, ih, Finset.sum_range_succ (fun b => ∑ i ∈ Finset.range 128, f (128 * b + i)) n]

/-- At the lags in use it is the circular autocorrelation. -/
theorem acorr_eq (X : ℕ → ℕ → ℝ) {l : ℕ} (hl : l ≤ 128) :
    (∑ i ∈ Finset.range 128, gr X i ((l + i % 128) % 256)) * (1 / 128) = Spec.acorr X l := by
  unfold Spec.acorr
  rw [mul_one_div, Finset.sum_comm, show (2048 : ℕ) = 128 * 16 by norm_num, blocks]
  congr 1
  unfold gr
  rw [Finset.sum_comm]
  refine Finset.sum_congr rfl fun b _ => Finset.sum_congr rfl fun i hi => ?_
  have hi := Finset.mem_range.mp hi
  unfold gb
  refine Finset.sum_congr rfl fun c _ => ?_
  congr 2
  omega

/-- The autocorrelation row at the lags in use. -/
theorem autoc_ap {A : FVec Ideal S2048x128 .f32} {X : ℕ → ℕ → ℝ}
    (hA : ∀ (i : Fin 2048) (j : Fin 128), A (ix2 i j) = ((X i j : ℝ) : EReal)) (l : Fin 256) (hl : (l : ℕ) ≤ 128) :
    autoc (gram A) (ix2 0 l) = ((Spec.acorr X l : ℝ) : EReal) := by
  rw [← acorr_eq X hl]
  have h1 : Turned (gram A) (gr X) 1 := by
    intro i j
    have := j.2
    rw [gram_ap hA, Nat.mod_one, add_zero, Nat.mod_eq_of_lt this]
  rw [autoc_split]
  exact rowsum_ap (turned_64 (turned_32 (turned_16 (turned_8 (turned_4 (turned_first h1)))))) l

end Cert.KGram

end
-- ==== Proof.KTop.lean ====
/- The three periods and their weights: the lags of the three greatest values of the autocorrelation, by masking. -/
module

public import proofs.«01_k».proof.Proof.Stages
public import proofs.«01_k».proof.Proof.Spec
public import proofs.«01_k».proof.Proof.Words
public import Idealize.ShloMosaic.Lib.Pointwise

@[expose] public section

set_option maxRecDepth 16384

noncomputable section

namespace Cert.KTop

open Idealize.ShloMosaic Idealize.SL.Sem
open Cert.KernelIdeal Cert.KernelIdeal.Gen Cert.Stage Cert.Consts Cert.Words

/-- The values over a set, minus infinity off it. -/
def mk (f : ℕ → ℝ) (S : Finset ℕ) (j : ℕ) : EReal := if j ∈ S then ((f j : ℝ) : EReal) else ⊥

variable {f : ℕ → ℝ} {S : Finset ℕ}

/-- A real is at most the masked value exactly where the place is kept and the value is as great. -/
theorem mk_le (f : ℕ → ℝ) (S : Finset ℕ) (a : ℝ) (j : ℕ) : (a : EReal) ≤ mk f S j ↔ j ∈ S ∧ a ≤ f j := by
  unfold mk
  by_cases h : j ∈ S
  · simp [h]
  · simp [h]

/-- The greatest of the values. -/
theorem fold_max (hS : ∀ j ∈ S, j < 256) (hn : S.Nonempty) :
    Finset.fold max (⊥ : EReal) (fun x : Fin 256 => mk f S x) Finset.univ = ((f (Spec.best f S) : ℝ) : EReal) := by
  obtain ⟨hm, hb⟩ := Spec.best_spec f hn
  refine le_antisymm ?_ ?_
  · rw [Finset.fold_max_le]
    refine ⟨bot_le, fun x _ => ?_⟩
    unfold mk
    split_ifs with h
    · exact_mod_cast hb _ h
    · exact bot_le
  · rw [Finset.le_fold_max]
    exact Or.inr ⟨⟨_, hS _ hm⟩, Finset.mem_univ _, (mk_le f S _ _).2 ⟨hm, le_refl _⟩⟩

/-- The least of some small numbers, as words. -/
theorem fold_words {n : Fin 256 → ℕ} {F : Fin 256 → BitVec 32} (hF : ∀ x, F x = BitVec.ofNat 32 (n x)) (hn : ∀ x, n x < 2147483648)
    (s : Finset (Fin 256)) :
    Finset.fold IntOp.minsi (2147483647#32) F s = BitVec.ofNat 32 (s.fold min 2147483647 n) ∧ s.fold min 2147483647 n < 2147483648 := by
  classical
  induction s using Finset.induction_on with
  | empty => exact ⟨rfl, by norm_num⟩
  | insert a s ha ih =>
    rw [Finset.fold_insert ha, Finset.fold_insert ha, ih.1, hF]
    exact ⟨min_w (hn a) ih.2, lt_of_le_of_lt (min_le_left _ _) (hn a)⟩

/-- The least place of the greatest value. -/
theorem fold_min {F : Fin 256 → BitVec 32} (hS : ∀ j ∈ S, j < 256) (hn : S.Nonempty)
    (hF : ∀ x : Fin 256, F x = BitVec.ofNat 32 (if (x : ℕ) ∈ S ∧ f (Spec.best f S) ≤ f x then x else 9999)) :
    Finset.fold IntOp.minsi (2147483647#32) F Finset.univ = BitVec.ofNat 32 (Spec.best f S) := by
  obtain ⟨hm, hb⟩ := Spec.best_spec f hn
  have hlt := hS _ hm
  rw [(fold_words hF (fun x => by have := x.2; split_ifs <;> omega) Finset.univ).1]
  congr 1
  refine le_antisymm ?_ ?_
  · rw [Finset.fold_min_le]
    exact Or.inr ⟨⟨_, hlt⟩, Finset.mem_univ _, by rw [if_pos ⟨hm, le_refl _⟩]⟩
  · rw [Finset.le_fold_min]
    refine ⟨by omega, fun x _ => ?_⟩
    split_ifs with h
    · exact Spec.best_le f h.1 fun j hj => (hb j hj).trans h.2
    · omega

/-- The named mask constant is minus infinity. -/
theorem named_bot : (Named.named (F := Ideal) κ "neg" 0xFF61B1E6#32 : Ideal .f32) = (⊥ : EReal) :=
  IdealRules.named_const.ideal_named_scalar _ _ _ _ rfl
/-- So is the splat's element. -/
theorem neg_bot : neg = (⊥ : EReal) := named_bot

/-- A sum of three exponentials is not zero. -/
theorem den_ne (a b c m : ℝ) : Real.exp (a - m) + Real.exp (b - m) + Real.exp (c - m) ≠ 0 := by positivity

section
variable {r : FVec Ideal S1x256 .f32} {ρ : ℕ → ℝ} (hr : ∀ l : Fin 256, (l : ℕ) ≤ 128 → r (ix2 0 l) = ((ρ l : ℝ) : EReal))

/-- The lags in use are among the 256 of the row. -/
theorem lags_lt : ∀ j ∈ Spec.lags, j < 256 := by intro j hj; simp only [Spec.lags, Finset.mem_Icc] at hj; omega
/-- So are those left after one is taken. -/
theorem lags1_lt : ∀ j ∈ Spec.lags.erase (Spec.p0 ρ), j < 256 := fun j hj => lags_lt j (Finset.mem_of_mem_erase hj)
/-- So are those left after two are taken. -/
theorem lags2_lt : ∀ j ∈ (Spec.lags.erase (Spec.p0 ρ)).erase (Spec.p1 ρ), j < 256 :=
  fun j hj => lags1_lt j (Finset.mem_of_mem_erase hj)

include hr

/-- The masked row before the first round. -/
theorem val0 (j : Fin 256) : k0_pay39 r maskI neg (ix2 0 j) = mk ρ Spec.lags j := by
  have := j.2
  pointwise [k0_pay39, maskI, k0_pay38, lagI]
  simp (disch := omega) only [sge_w, sle_w, and_b, sel_b, neg_bot]
  unfold mk
  refine if_ctx_congr (by simp [Spec.lags]) (fun h => hr j ?_) (fun _ => rfl)
  simp only [Spec.lags, Finset.mem_Icc] at h; exact h.2

/-- The first maximum is the value at the best lag. -/
theorem max0 : k0_pay40 r maskI neg (ix2 0 0) = ((ρ (Spec.p0 ρ) : ℝ) : EReal) := by
  pointwise [k0_pay40]
  simp only [val0 hr, c_bot]
  exact fold_max lags_lt Spec.lags_nonempty

/-- The first lag. -/
theorem idx0_ap : idx0 r (ix2 0 0) = BitVec.ofNat 32 (Spec.p0 ρ) := by
  pointwise [idx0, k0_pay41, lagI]
  refine fold_min lags_lt Spec.lags_nonempty fun x => ?_
  simp only [max0 hr, val0 hr, mk_le, if_w]
  rfl

/-- The masked row before the second round. -/
theorem val1 (j : Fin 256) : k0_pay42 lagI r maskI neg (ix2 0 j) = mk ρ (Spec.lags.erase (Spec.p0 ρ)) j := by
  have := j.2; have hp := Spec.p0_rng ρ
  have hi := idx0_ap hr; unfold idx0 at hi
  pointwise [k0_pay42]
  rw [hi, val0 hr, named_bot]
  pointwise [lagI]
  simp (disch := omega) only [eq_w, sel_b]
  unfold mk
  by_cases h : (j : ℕ) = Spec.p0 ρ <;> simp [h]

/-- The second maximum. -/
theorem max1 : k0_pay43 lagI r maskI neg (ix2 0 0) = ((ρ (Spec.p1 ρ) : ℝ) : EReal) := by
  pointwise [k0_pay43]
  simp only [val1 hr, c_bot]
  exact fold_max lags1_lt (Spec.lags1_nonempty _)

/-- The second lag. -/
theorem idx1_ap : idx1 r (ix2 0 0) = BitVec.ofNat 32 (Spec.p1 ρ) := by
  pointwise [idx1, k0_pay44]
  refine fold_min lags1_lt (Spec.lags1_nonempty _) fun x => ?_
  simp only [max1 hr, val1 hr, mk_le]
  pointwise [lagI]
  simp only [if_w]
  rfl

/-- The masked row before the third round. -/
theorem val2 (j : Fin 256) : k0_pay45 lagI r maskI neg (ix2 0 j) = mk ρ ((Spec.lags.erase (Spec.p0 ρ)).erase (Spec.p1 ρ)) j := by
  have := j.2; have hp := Spec.p1_rng ρ
  have hi := idx1_ap hr; unfold idx1 at hi
  pointwise [k0_pay45]
  rw [hi, val1 hr, named_bot]
  pointwise [lagI]
  simp (disch := omega) only [eq_w, sel_b]
  unfold mk
  by_cases h : (j : ℕ) = Spec.p1 ρ <;> simp [h]

/-- The third maximum. -/
theorem max2 : k0_pay46 lagI r maskI neg (ix2 0 0) = ((ρ (Spec.p2 ρ) : ℝ) : EReal) := by
  pointwise [k0_pay46]
  simp only [val2 hr, c_bot]
  exact fold_max lags2_lt (Spec.lags2_nonempty _ _)

/-- The third lag. -/
theorem idx2_ap : idx2 r (ix2 0 0) = BitVec.ofNat 32 (Spec.p2 ρ) := by
  pointwise [idx2, k0_pay47]
  refine fold_min lags2_lt (Spec.lags2_nonempty _ _) fun x => ?_
  simp only [max2 hr, val2 hr, mk_le]
  pointwise [lagI]
  simp only [if_w]
  rfl

/-! ### The weights -/

/-- The first softmax weight. -/
theorem wt0_ap : wt0 r (ix2 0 0) = ((Spec.w0 ρ : ℝ) : EReal) := by
  pointwise [wt0, k0_pay53, k0_pay52, k0_pay51, k0_pay50, k0_pay49, k0_pay48]
  simp only [max0 hr, max1 hr, max2 hr, coe_max, ← EReal.coe_sub, Ideal.exp_coe, ← EReal.coe_add, div_real _ (den_ne _ _ _ _)]
  rfl
/-- The second softmax weight. -/
theorem wt1_ap : wt1 r (ix2 0 0) = ((Spec.w1 ρ : ℝ) : EReal) := by
  pointwise [wt1, k0_pay54, k0_pay52, k0_pay51, k0_pay50, k0_pay49, k0_pay48]
  simp only [max0 hr, max1 hr, max2 hr, coe_max, ← EReal.coe_sub, Ideal.exp_coe, ← EReal.coe_add, div_real _ (den_ne _ _ _ _)]
  rfl
/-- The third softmax weight. -/
theorem wt2_ap : wt2 r (ix2 0 0) = ((Spec.w2 ρ : ℝ) : EReal) := by
  pointwise [wt2, k0_pay55, k0_pay52, k0_pay51, k0_pay50, k0_pay49, k0_pay48]
  simp only [max0 hr, max1 hr, max2 hr, coe_max, ← EReal.coe_sub, Ideal.exp_coe, ← EReal.coe_add, div_real _ (den_ne _ _ _ _)]
  rfl

end

end Cert.KTop

end
-- ==== Proof.KFold.lean ====
/- The kernel's windows and the means over the cycles. -/
module

public import proofs.«01_k».proof.Proof.Stages
public import proofs.«01_k».proof.Proof.Spec
public import proofs.«01_k».proof.Proof.Words
public import Idealize.ShloMosaic.Lib.Pointwise

@[expose] public section

set_option maxRecDepth 16384

noncomputable section

namespace Cert.KFold

open Idealize.ShloMosaic Idealize.SL.Sem
open Cert.KernelIdeal Cert.KernelIdeal.Gen Cert.Stage Cert.Consts Cert.Words

/-- The period of a row: 64 rows for each of the three. -/
def per3 (a b c i : ℕ) : ℕ := if i < 64 then a else if i < 128 then b else c

/-- The choice among three periods by the row, spelled out. -/
theorem per3_def (a b c i : ℕ) : (if i < 64 then a else if i < 128 then b else c) = per3 a b c i := rfl

/-- A time lies in the cycle of a row. -/
def inW (a b c i t : ℕ) : Prop := i % 64 * per3 a b c i ≤ t ∧ t < i % 64 * per3 a b c i + per3 a b c i

instance (a b c i t : ℕ) : Decidable (inW a b c i t) := inferInstanceAs (Decidable (_ ∧ _))

/-- The padded length of a row's period. -/
abbrev tp (a b c i : ℕ) : ℕ := Spec.tpad (per3 a b c i)

/-- Reading a time past the end, counted down from the last one, in the cycle of a row. -/
def inR (a b c i s : ℕ) : Prop :=
  (((2048 ≤ 2174 - s) ∧ 2174 - s < tp a b c i) ∧ i % 64 * per3 a b c i ≤ 2174 - s) ∧
    2174 - s < i % 64 * per3 a b c i + per3 a b c i

instance (a b c i t : ℕ) : Decidable (inR a b c i t) := inferInstanceAs (Decidable (_ ∧ _))

section
variable {i0 i1 i2 : IVec S1x1 32} {a b c : ℕ} (ha : 32 ≤ a ∧ a ≤ 128) (hb : 32 ≤ b ∧ b ≤ 128) (hc : 32 ≤ c ∧ c ≤ 128)
  (h0 : i0 (ix2 0 0) = BitVec.ofNat 32 a) (h1 : i1 (ix2 0 0) = BitVec.ofNat 32 b) (h2 : i2 (ix2 0 0) = BitVec.ofNat 32 c)

include ha hb hc in
/-- Each of the three periods is in the range. -/
theorem per3_rng (i : ℕ) : 32 ≤ per3 a b c i ∧ per3 a b c i ≤ 128 := by
  unfold per3
  by_cases h : i < 64
  · rwa [if_pos h]
  · rw [if_neg h]
    by_cases h' : i < 128
    · rwa [if_pos h']
    · rwa [if_neg h']

/-- The cycles of `p` that hold the times up to `2048`, as the ceiling of a quotient. -/
theorem ceil_div {p : ℕ} (h : 0 < p) : ⌈(2048 : ℝ) / (p : ℝ)⌉ = (((2048 + p - 1) / p : ℕ) : ℤ) := by
  have hp : (0 : ℝ) < p := by exact_mod_cast h
  have h1 := Nat.div_mul_le_self (2048 + p - 1) p
  have h2 := Nat.lt_div_mul_add (a := 2048 + p - 1) h
  rw [Int.ceil_eq_iff]
  constructor
  · rw [lt_div_iff₀ hp, sub_mul, one_mul, Int.cast_natCast]
    have : (((2048 + p - 1) / p * p : ℕ) : ℝ) < ((2048 + p : ℕ) : ℝ) := by exact_mod_cast (by omega)
    push_cast at this ⊢
    linarith
  · rw [div_le_iff₀ hp, Int.cast_natCast]
    have : ((2048 + p : ℕ) : ℝ) ≤ (((2048 + p - 1) / p * p + p : ℕ) : ℝ) := by exact_mod_cast (by omega)
    push_cast at this ⊢
    linarith

/-- The padded length is at least the length, by less than a period. -/
theorem tpad_rng {p : ℕ} (h : 32 ≤ p ∧ p ≤ 128) : 2048 ≤ Spec.tpad p ∧ Spec.tpad p < 2048 + p := by
  have h1 := Nat.div_mul_le_self (2048 + p - 1) p
  have h2 := Nat.lt_div_mul_add (a := 2048 + p - 1) (b := p) (by omega)
  unfold Spec.tpad
  omega

/-- The padded length as the kernel has it: a ceiling of a quotient of reals. -/
theorem tpad_w {p : ℕ} (h : 32 ≤ p ∧ p ≤ 128) :
    FloatOps.fptosi (F := Ideal) (φ := .f32) 32 (Ideal.liftRound Int.ceil (Ideal.div ((2048 : ℝ) : EReal) ((p : ℝ) : EReal)) * ((p : ℝ) : EReal))
      = BitVec.ofNat 32 (Spec.tpad p) := by
  have hr := tpad_rng h
  have hp : (p : ℝ) ≠ 0 := by have := h.1; exact_mod_cast (by omega)
  have e : ((((2048 + p - 1) / p : ℕ) : ℤ) : ℝ) * (p : ℝ) = ((Spec.tpad p : ℤ) : ℝ) := by unfold Spec.tpad; push_cast; ring
  rw [div_real _ hp, Ideal.liftRound_coe, ceil_div (by omega), ← EReal.coe_mul, e]
  show Ideal.fptosi 32 _ = _
  unfold Ideal.fptosi
  rw [Ideal.toIntClamped_coe, if_pos (by positivity), Int.floor_intCast, min_eq_right (by norm_num; omega), max_eq_right (by norm_num),
    BitVec.ofInt_natCast]

include ha hb hc h0 h1 h2

/-- The windows. -/
theorem win_ap (i : Fin 192) (t : Fin 2048) :
    win i0 i1 i2 (ix2 i t) = ((if inW a b c i t then 1 else 0 : ℝ) : EReal) := by
  have hi := i.2
  have ht := t.2
  have hp := per3_rng ha hb hc i
  have hq : (i : ℕ) % 64 * per3 a b c i ≤ 63 * 128 := Nat.mul_le_mul (by omega) hp.2
  pointwise [win, k0_pay90]
  simp only [h0, h1, h2]
  simp (disch := omega) only [slt_w, sel_b, if_w, and63_w]
  simp only [per3_def]
  simp (disch := omega) only [slt_w, sge_w, mul_w, add_w, and_b, fl_b]
  rfl

/-- The windows past the end. -/
theorem refl_ap (i : Fin 192) (s : Fin 128) :
    refl i0 i1 i2 (ix2 i s) = ((if inR a b c i s then 1 else 0 : ℝ) : EReal) := by
  have hi := i.2
  have hs := s.2
  have hp := per3_rng ha hb hc i
  have hq : (i : ℕ) % 64 * per3 a b c i ≤ 63 * 128 := Nat.mul_le_mul (by omega) hp.2
  have hr := tpad_rng hp
  pointwise [Stage.refl, k0_pay88]
  simp only [h0, h1, h2]
  simp (disch := omega) only [slt_w, sel_b, if_w, and63_w]
  simp only [per3_def]
  simp (disch := omega) only [fl_w, c_2048]
  simp only [tpad_w hp]
  simp (disch := omega) only [slt_w, sge_w, sub_w, mul_w, add_w, and_b, fl_b]
  rfl
end

/-- The mean of a cycle as a sum over all times: those below the end, and those past it counted down from the last. -/
theorem cyc_eq (X : ℕ → ℕ → ℝ) {p : ℕ} (h : 32 ≤ p ∧ p ≤ 128) (l c : ℕ) :
    Spec.cyc X p l c = ((∑ t ∈ Finset.range 2048, (if l * p ≤ t ∧ t < l * p + p then 1 else 0) * X t c)
      + ∑ s ∈ Finset.range 128, (if (((2048 ≤ 2174 - s) ∧ 2174 - s < Spec.tpad p) ∧ l * p ≤ 2174 - s) ∧ 2174 - s < l * p + p
          then 1 else 0) * X (1920 + s) c) * (1 / 128) := by
  have hr := tpad_rng h
  unfold Spec.cyc
  generalize l * p = q
  generalize Spec.tpad p = T at hr
  rw [mul_one_div]
  congr 1
  have e1 : (∑ s ∈ Finset.range 128, if s < p ∧ q + s < T then X (Spec.rf (q + s)) c else 0)
      = ∑ n ∈ Finset.range 2175, if (q ≤ n ∧ n < q + p) ∧ n < T then X (Spec.rf n) c else 0 := by
    rw [← Finset.sum_filter, ← Finset.sum_filter]
    refine Finset.sum_nbij' (fun s => q + s) (fun n => n - q) ?_ ?_ ?_ ?_ ?_
    · intro s hs; simp only [Finset.mem_filter, Finset.mem_range] at hs ⊢; omega
    · intro s hs; simp only [Finset.mem_filter, Finset.mem_range] at hs ⊢; omega
    · intro s hs; simp only [Finset.mem_filter, Finset.mem_range] at hs ⊢; omega
    · intro s hs; simp only [Finset.mem_filter, Finset.mem_range] at hs ⊢; omega
    · intro s _; rfl
  rw [e1, show (2175 : ℕ) = 2048 + 127 by norm_num, Finset.sum_range_add, Finset.sum_range_succ _ 127]
  have e2 : (if (((2048 ≤ 2174 - 127) ∧ 2174 - 127 < T) ∧ q ≤ 2174 - 127) ∧ 2174 - 127 < q + p then (1 : ℝ) else 0)
      * X (1920 + 127) c = 0 := by
    rw [if_neg (by omega), zero_mul]
  rw [e2, add_zero]
  congr 1
  · refine Finset.sum_congr rfl fun t ht => ?_
    have ht := Finset.mem_range.mp ht
    rw [ite_mul, one_mul, zero_mul]
    refine if_congr ?_ ?_ rfl
    · omega
    · congr 1; unfold Spec.rf; rw [if_pos (by omega)]; omega
  · rw [← Finset.sum_range_reflect]
    refine Finset.sum_congr rfl fun s hs => ?_
    have hs := Finset.mem_range.mp hs
    rw [ite_mul, one_mul, zero_mul]
    refine if_congr ?_ ?_ rfl
    · omega
    · congr 1; unfold Spec.rf; rw [if_neg (by omega)]; omega

/-- The means over the cycles, 64 rows for each of the three periods. -/
theorem fold_ap {A : FVec Ideal S2048x128 .f32} {X : ℕ → ℕ → ℝ} {i0 i1 i2 : IVec S1x1 32} {a b c : ℕ}
    (ha : 32 ≤ a ∧ a ≤ 128) (hb : 32 ≤ b ∧ b ≤ 128) (hc : 32 ≤ c ∧ c ≤ 128)
    (h0 : i0 (ix2 0 0) = BitVec.ofNat 32 a) (h1 : i1 (ix2 0 0) = BitVec.ofNat 32 b) (h2 : i2 (ix2 0 0) = BitVec.ofNat 32 c)
    (hA : ∀ (i : Fin 2048) (j : Fin 128), A (ix2 i j) = ((X i j : ℝ) : EReal)) (i : Fin 192) (o : Fin 128) :
    foldU A i0 i1 i2 (ix2 i o) = ((Spec.cyc X (per3 a b c i) (i % 64) o : ℝ) : EReal) := by
  rw [cyc_eq X (per3_rng ha hb hc i), Finset.sum_range, Finset.sum_range]
  pointwise [foldU, k0_pay89]
  simp only [hA, win_ap ha hb hc h0 h1 h2, refl_ap ha hb hc h0 h1 h2, c_inv128, ← EReal.coe_mul, ← EReal.coe_add, coe_sum]
  rfl

end Cert.KFold

end
-- ==== Proof.KLocal.lean ====
/- The kernel's local path is the local path of the mathematics. -/
module

public import proofs.«01_k».proof.Proof.Stages
public import proofs.«01_k».proof.Proof.Spec
public import Idealize.ShloMosaic.Lib.Pointwise

@[expose] public section

set_option maxRecDepth 16384

noncomputable section

namespace Cert.KLocal

open Idealize.ShloMosaic Idealize.SL.Sem
open Cert.KernelIdeal Cert.KernelIdeal.Gen Cert.Stage Cert.Consts

variable {A : FVec Ideal S2048x128 .f32} {X : ℕ → ℕ → ℝ}

/-- The batch with three rows of zeros at each end. -/
def padL (X : ℕ → ℕ → ℝ) (t c : ℕ) : ℝ := if 3 ≤ t ∧ t < 2051 then X (t - 3) c else 0

/-- The series padded by three rows of zeros on either side. -/
theorem pad_ap (hA : ∀ (i : Fin 2048) (j : Fin 128), A (ix2 i j) = ((X i j : ℝ) : EReal)) (i : Fin 2054) (j : Fin 128) :
    k0_pay25 A (ix2 i j) = ((padL X i j : ℝ) : EReal) := by
  pointwise [k0_pay25]
  simp only [hA, ← EReal.coe_zero, coe_dite]
  congr 1
  unfold padL
  by_cases h1 : (i : ℕ) < 3
  · rw [if_pos h1, if_neg (by omega)]
  · rw [if_neg h1]
    by_cases h2 : (i : ℕ) - 3 < 2048
    · rw [if_pos h2, if_pos (by omega)]
    · rw [if_neg h2, if_neg (by omega)]

/-- The kernel's spelling of the activation. -/
theorem gelu_eq (y : ℝ) : 1 / 2 * y * (1 + Real.tanh (g1 * (y + g2 * y * y * y))) = Spec.gelu y := by
  unfold Spec.gelu
  rw [show g2 * y * y * y = g2 * (y * y * y) by ring]
  ring

/-- The seven fused products are the local convolution followed by its channel matrix. -/
theorem fused (W : Spec.RW) {lc : ℕ → ℕ → ℝ}
    (hlc : ∀ j c o, j < 7 → c < 128 → o < 128 → lc (128 * j + c) o = W.ldw j c * W.lpw o c) (t o : ℕ) (ho : o < 128) :
    (∑ x : Fin 128, padL X t x * lc x o) + (∑ x : Fin 128, padL X (1 + t) x * lc (128 + x) o)
      + (∑ x : Fin 128, padL X (2 + t) x * lc (256 + x) o) + (∑ x : Fin 128, padL X (3 + t) x * lc (384 + x) o)
      + (∑ x : Fin 128, padL X (4 + t) x * lc (512 + x) o) + (∑ x : Fin 128, padL X (5 + t) x * lc (640 + x) o)
      + (∑ x : Fin 128, padL X (6 + t) x * lc (768 + x) o) = Spec.lmix W X t o := by
  unfold Spec.lmix Spec.lconv
  rw [Finset.sum_range]
  simp only [← Finset.sum_add_distrib]
  refine Finset.sum_congr rfl fun x _ => ?_
  have h := fun j hj => hlc j x o hj x.2 ho
  have h0 := h 0 (by norm_num); have h1 := h 1 (by norm_num); have h2 := h 2 (by norm_num); have h3 := h 3 (by norm_num)
  have h4 := h 4 (by norm_num); have h5 := h 5 (by norm_num); have h6 := h 6 (by norm_num)
  norm_num at h0 h1 h2 h3 h4 h5 h6
  rw [h0, h1, h2, h3, h4, h5, h6]
  simp only [Finset.sum_range_succ, Finset.sum_range_zero]
  unfold padL
  rw [add_comm 1 t, add_comm 2 t, add_comm 3 t, add_comm 4 t, add_comm 5 t, add_comm 6 t]
  simp only [add_zero]
  ring

/-- The local path at a time and a channel. -/
theorem loc_ap (W : Wts) (R : Spec.RW) {lc : ℕ → ℕ → ℝ}
    (hA : ∀ (i : Fin 2048) (j : Fin 128), A (ix2 i j) = ((X i j : ℝ) : EReal))
    (hW : ∀ (i : Fin 896) (j : Fin 128), W.lc (ix2 i j) = ((lc i j : ℝ) : EReal))
    (hlc : ∀ j c o, j < 7 → c < 128 → o < 128 → lc (128 * j + c) o = R.ldw j c * R.lpw o c) (t : Fin 2048) (o : Fin 128) :
    loc W A (ix2 t o) = ((Spec.local_ R X t o : ℝ) : EReal) := by
  pointwise [loc, k0_pay29, k0_pay26, k0_pay27, k0_pay28]
  simp only [pad_ap hA, hW, c_half, c_g1, c_g2, ← EReal.coe_one, ← EReal.coe_mul, ← EReal.coe_add, coe_sum, Ideal.tanh_coe]
  rw [fused R hlc t o o.2, gelu_eq]
  rfl

end Cert.KLocal

end
-- ==== Proof.KConv.lean ====
/- The kernel's period sections: the depthwise and pointwise convolutions of the three sections in one stack, the group
   norms, the channel gates, and the weighted residuals. -/
module

public import proofs.«01_k».proof.Proof.KLocal
public import proofs.«01_k».proof.Proof.Words

@[expose] public section

set_option maxRecDepth 16384

noncomputable section

namespace Cert.KConv

open Idealize.ShloMosaic Idealize.SL.Sem
open Cert.KernelIdeal Cert.KernelIdeal.Gen Cert.Stage Cert.Consts Cert.Words

/-- The weights the body reads are the given real ones. -/
structure Holds (W : Wts) (R : Spec.RW) : Prop where
  dw : ∀ (j : Fin 9) (c : Fin 128), W.dw (ix2 j c) = ((R.dw j c : ℝ) : EReal)
  gam : ∀ c : Fin 128, W.gam (ix2 0 c) = ((R.gam c : ℝ) : EReal)
  bet : ∀ c : Fin 128, W.bet (ix2 0 c) = ((R.bet c : ℝ) : EReal)
  res : ∀ c : Fin 128, W.res (ix2 0 c) = ((R.res c : ℝ) : EReal)
  pw : ∀ c o : Fin 128, W.pw (ix2 c o) = ((R.pw o c : ℝ) : EReal)
  gt : ∀ c o : Fin 128, W.gt (ix2 c o) = ((R.gt o c : ℝ) : EReal)

/-! ### The groups -/

/-- The number of a channel's group, as a word. -/
theorem quo_ap (o : Fin 128) (g : Fin 32) : k0_pay94 (ix2 o g) = BitVec.ofNat 32 ((o : ℕ) / 4) := by
  pointwise [k0_pay94]
  revert o
  decide

/-- The 0/1 matrix of the groups. -/
theorem grp_ap (o : Fin 128) (g : Fin 32) : grp (ix2 o g) = ((if (o : ℕ) / 4 = g then 1 else 0 : ℝ) : EReal) := by
  have := o.2; have := g.2
  pointwise [grp, k0_pay95]
  rw [quo_ap]
  simp (disch := omega) only [eq_w, fl_b]

/-- Summing over the groups and spreading the sums is summing over a channel's group. -/
theorem grp_sum (s : ℕ → ℝ) {o : ℕ} (ho : o < 128) :
    ∑ g ∈ Finset.range 32, (∑ c ∈ Finset.range 128, s c * (if c / 4 = g then 1 else 0)) * (if o / 4 = g then 1 else 0)
      = ∑ a ∈ Finset.range 4, s (o / 4 * 4 + a) := by
  have hg : o / 4 ∈ Finset.range 32 := Finset.mem_range.mpr (by omega)
  rw [Finset.sum_eq_single (o / 4) (fun g _ h => by rw [if_neg (Ne.symm h), mul_zero]) (fun h => absurd hg h), if_pos rfl, mul_one]
  simp only [mul_ite, mul_one, mul_zero]
  rw [← Finset.sum_filter]
  refine Finset.sum_nbij' (fun c => c % 4) (fun a => o / 4 * 4 + a) ?_ ?_ ?_ ?_ ?_
  · intro c hc; simp only [Finset.mem_filter, Finset.mem_range] at hc ⊢; omega
  · intro c hc; simp only [Finset.mem_filter, Finset.mem_range] at hc ⊢; omega
  · intro c hc; simp only [Finset.mem_filter, Finset.mem_range] at hc ⊢; omega
  · intro c hc; simp only [Finset.mem_range] at hc ⊢; omega
  · intro c hc
    simp only [Finset.mem_filter, Finset.mem_range] at hc
    congr 1; omega

/-! ### The convolutions -/

/-- The section of a period. -/
def sec (u : ℕ → ℕ → ℝ) (k l c : ℕ) : ℝ := u (64 * k + l) c
/-- The three sections with zeros before, between and after them. -/
def pad (u : ℕ → ℕ → ℝ) (i c : ℕ) : ℝ :=
  if 4 ≤ i ∧ i < 68 then u (i - 4) c else if 84 ≤ i ∧ i < 148 then u (64 + (i - 84)) c
    else if 164 ≤ i ∧ i < 228 then u (128 + (i - 164)) c else 0

/-- The norm as the kernel has it, with the reciprocal of the root. -/
theorem norm_eq (R : Spec.RW) (v : ℕ → ℕ → ℝ) (l o : ℕ) :
    (Spec.pconv R v l o - Spec.mu R v o) * (Real.sqrt (Spec.var R v o + e5))⁻¹ * R.gam o + R.bet o = Spec.gnorm R v l o := by
  unfold Spec.gnorm; rw [div_eq_mul_inv]

/-- A variance with the small number added is positive. -/
theorem var_pos (R : Spec.RW) (v : ℕ → ℕ → ℝ) (o : ℕ) : 0 < Spec.var R v o + e5 := by
  have := Spec.var_nonneg R v o; have := e5_pos; linarith

section
variable {W : Wts} {R : Spec.RW} (h : Holds W R) {U : FVec Ideal S192x128 .f32} {u : ℕ → ℕ → ℝ}
  (hU : ∀ (i : Fin 192) (j : Fin 128), U (ix2 i j) = ((u i j : ℝ) : EReal))
include hU

/-- The padded array of the three periods. -/
theorem pad_ap (i : Fin 232) (c : Fin 128) : k0_pay96 U (ix2 i c) = ((pad u i c : ℝ) : EReal) := by
  have := i.2
  pointwise [k0_pay96]
  simp only [hU, ← EReal.coe_zero, coe_dite]
  congr 1
  unfold pad
  split_ifs <;> first | rfl | omega | (congr 1; omega)

include h

/-- The two convolutions over the padded array. -/
theorem conv_ap (i : Fin 224) (o : Fin 128) :
    conv W U (ix2 i o) = ((∑ c ∈ Finset.range 128, (∑ j ∈ Finset.range 9, pad u (j + i) c * R.dw j c) * R.pw o c : ℝ) : EReal) := by
  rw [Finset.sum_range]
  pointwise [conv, k0_pay97, k0_pay98, k0_pay99, k0_pay100]
  simp only [pad_ap hU, h.dw, h.pw, ← EReal.coe_mul, ← EReal.coe_add, coe_sum]
  congr 1
  refine Finset.sum_congr rfl fun c _ => ?_
  simp only [Finset.sum_range_succ, Finset.sum_range_zero, zero_add]
  rfl

/-- A section of the stack is the convolution of that section. -/
theorem conv_sec (k l : ℕ) (hk : k < 3) (hl : l < 64) (i : Fin 224) (hi : (i : ℕ) = 80 * k + l) (o : Fin 128) :
    conv W U (ix2 i o) = ((Spec.pconv R (sec u k) l o : ℝ) : EReal) := by
  rw [conv_ap h hU, hi]
  congr 1
  unfold Spec.pconv Spec.dconv
  refine Finset.sum_congr rfl fun c _ => ?_
  congr 1
  refine Finset.sum_congr rfl fun j hj => ?_
  have hj := Finset.mem_range.mp hj
  congr 1
  unfold pad sec
  obtain rfl | rfl | rfl : k = 0 ∨ k = 1 ∨ k = 2 := by omega
  all_goals split_ifs <;> first | rfl | omega | (congr 1; omega)

/-- The first period's rows are its own convolution. -/
theorem sec0_ap (l : Fin 64) (o : Fin 128) :
    k0_pay101 W.dw W.pw (k0_pay96 U) (k0_pay97 W.dw U) (k0_pay98 U) (k0_pay99 W.dw) (ix2 l o) = ((Spec.pconv R (sec u 0) l o : ℝ) : EReal) := by
  pointwise [k0_pay101]
  exact conv_sec h hU 0 l (by norm_num) l.2 _ (by simp) o
/-- The second period's rows are its own convolution. -/
theorem sec1_ap (l : Fin 64) (o : Fin 128) :
    k0_pay102 W.dw W.pw (k0_pay96 U) (k0_pay97 W.dw U) (k0_pay98 U) (k0_pay99 W.dw) (ix2 l o) = ((Spec.pconv R (sec u 1) l o : ℝ) : EReal) := by
  pointwise [k0_pay102]
  exact conv_sec h hU 1 l (by norm_num) l.2 _ (by simp) o
/-- The third period's rows are its own convolution. -/
theorem sec2_ap (l : Fin 64) (o : Fin 128) :
    k0_pay103 W.dw W.pw (k0_pay96 U) (k0_pay97 W.dw U) (k0_pay98 U) (k0_pay99 W.dw) (ix2 l o) = ((Spec.pconv R (sec u 2) l o : ℝ) : EReal) := by
  pointwise [k0_pay103]
  exact conv_sec h hU 2 l (by norm_num) l.2 _ (by simp) o

/-! ### The norms -/

/-- The means of the groups. -/
theorem mean_ap (k : Fin 3) (o : Fin 128) :
    k0_pay104 W.dw W.pw grp (k0_pay96 U) (k0_pay97 W.dw U) (k0_pay98 U) (k0_pay99 W.dw) (ix2 k o)
      = ((Spec.mu R (sec u k) o : ℝ) : EReal) := by
  unfold Spec.mu
  rw [← grp_sum (fun c => ∑ l ∈ Finset.range 64, Spec.pconv R (sec u k) l c) o.2]
  pointwise [k0_pay104]
  simp only [sec0_ap h hU, sec1_ap h hU, sec2_ap h hU, grp_ap, coe_sum, coe_dite, ← EReal.coe_mul, c_inv256]
  rw [mul_one_div]
  congr 2
  rw [Finset.sum_range]
  refine Finset.sum_congr rfl fun g _ => ?_
  congr 1
  rw [Finset.sum_range]
  refine Finset.sum_congr rfl fun c _ => ?_
  congr 1
  rw [Finset.sum_range]
  fin_cases k <;> simp

/-- The first period's deviations from the group's mean. -/
theorem dev0_ap (l : Fin 64) (o : Fin 128) :
    dev0 W U (ix2 l o) = ((Spec.pconv R (sec u 0) l o - Spec.mu R (sec u 0) o : ℝ) : EReal) := by
  pointwise [dev0, k0_pay105]
  rw [sec0_ap h hU, mean_ap h hU, ← EReal.coe_sub]
  rfl
/-- The second period's deviations from the group's mean. -/
theorem dev1_ap (l : Fin 64) (o : Fin 128) :
    dev1 W U (ix2 l o) = ((Spec.pconv R (sec u 1) l o - Spec.mu R (sec u 1) o : ℝ) : EReal) := by
  pointwise [dev1, k0_pay106]
  rw [sec1_ap h hU, mean_ap h hU, ← EReal.coe_sub]
  rfl
/-- The third period's deviations from the group's mean. -/
theorem dev2_ap (l : Fin 64) (o : Fin 128) :
    dev2 W U (ix2 l o) = ((Spec.pconv R (sec u 2) l o - Spec.mu R (sec u 2) o : ℝ) : EReal) := by
  pointwise [dev2, k0_pay107]
  rw [sec2_ap h hU, mean_ap h hU, ← EReal.coe_sub]
  rfl

/-- The sum of the squares of a channel's deviations. -/
def ss (R : Spec.RW) (v : ℕ → ℕ → ℝ) (c : ℕ) : ℝ :=
  ∑ l ∈ Finset.range 64, (Spec.pconv R v l c - Spec.mu R v c) * (Spec.pconv R v l c - Spec.mu R v c)

/-- The first period's sums of squared deviations. -/
theorem sq0_ap (a : Fin 1) (o : Fin 128) : sq0 W U (ix2 a o) = ((ss R (sec u 0) o : ℝ) : EReal) := by
  have hd := dev0_ap h hU; unfold dev0 at hd
  obtain rfl : a = 0 := Subsingleton.elim _ _
  unfold ss; rw [Finset.sum_range]
  pointwise [sq0, k0_pay108]
  simp only [hd, ← EReal.coe_mul, coe_sum]
/-- The second period's sums of squared deviations. -/
theorem sq1_ap (a : Fin 1) (o : Fin 128) : sq1 W U (ix2 a o) = ((ss R (sec u 1) o : ℝ) : EReal) := by
  have hd := dev1_ap h hU; unfold dev1 at hd
  obtain rfl : a = 0 := Subsingleton.elim _ _
  unfold ss; rw [Finset.sum_range]
  pointwise [sq1, k0_pay109]
  simp only [hd, ← EReal.coe_mul, coe_sum]
/-- The third period's sums of squared deviations. -/
theorem sq2_ap (o : Fin 128) : sq2 W U (ix1 o) = ((ss R (sec u 2) o : ℝ) : EReal) := by
  have hd := dev2_ap h hU; unfold dev2 at hd
  unfold ss; rw [Finset.sum_range]
  pointwise [sq2, k0_pay110]
  simp only [hd, ← EReal.coe_mul, coe_sum]

/-- The variances of the groups. -/
theorem vars_ap (k : Fin 3) (o : Fin 128) : vars W U (ix2 k o) = ((Spec.var R (sec u k) o : ℝ) : EReal) := by
  have e : Spec.var R (sec u k) o = (∑ a ∈ Finset.range 4, ss R (sec u k) ((o : ℕ) / 4 * 4 + a)) / 256 := by
    unfold Spec.var ss
    congr 1
    refine Finset.sum_congr rfl fun a ha => ?_
    have ha := Finset.mem_range.mp ha
    have hm : Spec.mu R (sec u k) ((o : ℕ) / 4 * 4 + a) = Spec.mu R (sec u k) o := by
      unfold Spec.mu; rw [show ((o : ℕ) / 4 * 4 + a) / 4 = (o : ℕ) / 4 by omega]
    rw [hm]
  rw [e, ← grp_sum (ss R (sec u k)) o.2]
  pointwise [vars, k0_pay111]
  simp only [sq0_ap h hU, sq1_ap h hU, sq2_ap h hU, grp_ap, coe_sum, coe_dite, ← EReal.coe_mul, c_inv256]
  rw [mul_one_div]
  congr 2
  rw [Finset.sum_range]
  refine Finset.sum_congr rfl fun g _ => ?_
  congr 1
  rw [Finset.sum_range]
  refine Finset.sum_congr rfl fun c _ => ?_
  congr 1
  fin_cases k <;> simp

/-- The channel gates. -/
theorem chan_ap (k : Fin 3) (o : Fin 128) : chan W U (ix2 k o) = ((Spec.cgate R (sec u k) o : ℝ) : EReal) := by
  unfold Spec.cgate
  rw [Finset.sum_range]
  pointwise [chan, k0_pay112]
  simp only [hU, h.gt, coe_sum, coe_dite, ← EReal.coe_mul, c_inv64]
  rw [Ideal.logistic_coe]
  congr 1
  unfold Spec.sig
  congr 4
  refine Finset.sum_congr rfl fun c _ => ?_
  rw [mul_one_div]
  congr 2
  rw [Finset.sum_range]
  unfold sec
  fin_cases k <;> simp

/-! ### The residuals -/

/-- What the three periods add, weighted, one below the other. -/
theorem xres_ap {w0 w1 w2 : FVec Ideal S1x1 .f32} {a b c : ℝ} (h0 : w0 (ix2 0 0) = (a : EReal)) (h1 : w1 (ix2 0 0) = (b : EReal))
    (h2 : w2 (ix2 0 0) = (c : EReal)) (i : Fin 192) (o : Fin 128) :
    xres W U w0 w1 w2 (ix2 i o)
      = (((if (i : ℕ) < 64 then a else if (i : ℕ) < 128 then b else c) * Spec.add R (sec u (i / 64)) (i % 64) o : ℝ) : EReal) := by
  have hv := vars_ap h hU; unfold vars at hv
  have hc := chan_ap h hU; unfold chan at hc
  pointwise [xres, k0_pay121, k0_pay120, k0_pay119, k0_pay118, k0_pay117, k0_pay116, k0_pay115, k0_pay114, k0_pay113]
  simp only [hv, hc, chan_ap h hU, vars_ap h hU, dev0_ap h hU, dev1_ap h hU, dev2_ap h hU, h.gam, h.bet, h.res, h0, h1, h2,
    c_e5, c_half, c_g1, c_g2, ← EReal.coe_one, ← EReal.coe_mul, ← EReal.coe_add, Ideal.tanh_coe, rsqrt_real (var_pos _ _ _)]
  have e0 : ((0 : Fin 3) : ℕ) = 0 := rfl
  have e1 : ((1 : Fin 3) : ℕ) = 1 := rfl
  have e2 : ((2 : Fin 3) : ℕ) = 2 := rfl
  simp only [e0, e1, e2, norm_eq, KLocal.gelu_eq, coe_dite]
  congr 1
  have := i.2
  unfold Spec.add
  by_cases c0 : (i : ℕ) < 64
  · rw [if_pos c0, if_pos c0, show (i : ℕ) / 64 = 0 by omega, show (i : ℕ) % 64 = i by omega]; ring
  · rw [if_neg c0, if_neg c0]
    by_cases c1 : (i : ℕ) < 128
    · rw [if_pos (by omega), if_pos c1, show (i : ℕ) / 64 = 1 by omega, show (i : ℕ) % 64 = i - 64 by omega]; ring
    · rw [if_neg (by omega), if_neg c1, show (i : ℕ) / 64 = 2 by omega, show (i : ℕ) % 64 = i - 64 - 64 by omega]; ring
end

end Cert.KConv

end
-- ==== Proof.KGate.lean ====
/- The kernel's entropy gate. -/
module

public import proofs.«01_k».proof.Proof.Stages
public import proofs.«01_k».proof.Proof.Spec
public import Idealize.ShloMosaic.Lib.Pointwise

@[expose] public section

set_option maxRecDepth 16384

noncomputable section

namespace Cert.KGate

open Idealize.ShloMosaic Idealize.SL.Sem
open Cert.KernelIdeal Cert.KernelIdeal.Gen Cert.Stage Cert.Consts

/-- The gate of three positive weights. -/
theorem gate_ap {u v w : FVec Ideal S1x1 .f32} {a b c : ℝ} (ha : 0 < a) (hb : 0 < b) (hc : 0 < c)
    (hu : u (ix2 0 0) = (a : EReal)) (hv : v (ix2 0 0) = (b : EReal)) (hw : w (ix2 0 0) = (c : EReal)) :
    gate u v w (ix2 0 0) = ((Spec.gateR a b c : ℝ) : EReal) := by
  have h8 := e8_pos
  have hs : Scalar.log (F := Ideal) (φ := .f32) ((3 + e8 : ℝ) : EReal) = ((Real.log (3 + e8) : ℝ) : EReal) :=
    log_real (add_pos (by norm_num) h8)
  pointwise [gate, k0_pay57, k0_pay56]
  simp only [hu, hv, hw, c_e8, c_3, c_4, c_half, ← EReal.coe_one, ← EReal.coe_zero, ← EReal.coe_mul, ← EReal.coe_add,
    ← EReal.coe_sub, log_real (add_pos ha h8), log_real (add_pos hb h8), log_real (add_pos hc h8),
    hs, div_real _ Spec.ent_ne, coe_max, coe_min, Ideal.logistic_coe]
  rw [zero_sub]
  rfl

end Cert.KGate

end
-- ==== Proof.KFinal.lean ====
/- The kernel's last stage: the two paths fused, from the gate, the windows and the residuals. -/
module

public import proofs.«01_k».proof.Proof.Stages
public import proofs.«01_k».proof.Proof.Spec
public import Idealize.ShloMosaic.Lib.Pointwise

@[expose] public section

set_option maxRecDepth 16384

noncomputable section

namespace Cert.KFinal

open Idealize.ShloMosaic Idealize.SL.Sem
open Cert.KernelIdeal Cert.KernelIdeal.Gen Cert.Stage Cert.Consts

/-- The periodic path as the kernel has it: the batch, with the residuals spread over the windows. -/
def perK (X m xr : ℕ → ℕ → ℝ) (t o : ℕ) : ℝ := X t o + ∑ i ∈ Finset.range 192, m i t * xr i o

/-- The sum of squares with the small number added is not zero. -/
theorem den_pos (P : ℕ → ℕ → ℝ) (o : ℕ) : (∑ s ∈ Finset.range 2048, P s o * P s o) + e6 ≠ 0 := by
  have h : 0 ≤ ∑ s ∈ Finset.range 2048, P s o * P s o := Finset.sum_nonneg fun _ _ => mul_self_nonneg _
  have := e6_pos
  linarith

/-- The result at a time and a channel. -/
theorem final_ap {A L : FVec Ideal S2048x128 .f32} {g : FVec Ideal S1x1 .f32} {M : FVec Ideal S192x2048 .f32}
    {R : FVec Ideal S192x128 .f32} {X l m xr : ℕ → ℕ → ℝ} {gr : ℝ}
    (hA : ∀ (i : Fin 2048) (j : Fin 128), A (ix2 i j) = ((X i j : ℝ) : EReal))
    (hL : ∀ (i : Fin 2048) (j : Fin 128), L (ix2 i j) = ((l i j : ℝ) : EReal))
    (hg : g (ix2 0 0) = ((gr : ℝ) : EReal))
    (hM : ∀ (i : Fin 192) (j : Fin 2048), M (ix2 i j) = ((m i j : ℝ) : EReal))
    (hR : ∀ (i : Fin 192) (j : Fin 128), R (ix2 i j) = ((xr i j : ℝ) : EReal)) (t : Fin 2048) (o : Fin 128) :
    k0_pay144 A L g M R (ix3 0 t o) = ((Spec.fuse X l (perK X m xr) gr t o : ℝ) : EReal) := by
  pointwise [k0_pay144]
  simp only [hA, hL, hg, hM, hR, c_e6, c_beta, ← EReal.coe_one, ← EReal.coe_mul, ← EReal.coe_add, coe_sum]
  have hd := den_pos (perK X m xr) o
  have hp : ∀ (t : ℕ), X t o + ∑ i : Fin 192, m i t * xr i o = perK X m xr t o := fun t => by
    unfold perK; rw [Finset.sum_range]
  rw [Finset.sum_range] at hd
  simp only [hp, div_real _ hd, ← EReal.coe_mul, ← EReal.coe_add, ← EReal.coe_sub]
  unfold Spec.fuse
  rw [Finset.sum_range, Finset.sum_range]

end Cert.KFinal

end
-- ==== Proof.KBatch.lean ====
/- What the kernel's body stores for a batch is the result of the mathematics for that batch. -/
module

public import proofs.«01_k».proof.Proof.KGram
public import proofs.«01_k».proof.Proof.KTop
public import proofs.«01_k».proof.Proof.KFold
public import proofs.«01_k».proof.Proof.KConv
public import proofs.«01_k».proof.Proof.KGate
public import proofs.«01_k».proof.Proof.KFinal

@[expose] public section

set_option maxRecDepth 16384

noncomputable section

namespace Cert.KBatch

open Idealize.ShloMosaic Idealize.SL.Sem
open Cert.KernelIdeal Cert.KernelIdeal.Gen Cert.Stage Cert.Consts Cert.Words Cert.KFold Cert.KConv Cert.KFinal

/-! ### What a period section adds depends on its 64 cycles only -/

/-- The depthwise convolution reads the first 64 cycles only. -/
theorem dconv_congr (R : Spec.RW) {U V : ℕ → ℕ → ℝ} (h : ∀ l c, l < 64 → U l c = V l c) : Spec.dconv R U = Spec.dconv R V := by
  funext l c
  unfold Spec.dconv
  refine Finset.sum_congr rfl fun j _ => ?_
  congr 1
  by_cases hc : 4 ≤ l + j ∧ l + j < 68
  · rw [if_pos hc, if_pos hc, h _ _ (by omega)]
  · rw [if_neg hc, if_neg hc]

/-- So does what the section adds. -/
theorem add_congr (R : Spec.RW) {U V : ℕ → ℕ → ℝ} (h : ∀ l c, l < 64 → U l c = V l c) : Spec.add R U = Spec.add R V := by
  have hp : Spec.pconv R U = Spec.pconv R V := by funext l o; unfold Spec.pconv; rw [dconv_congr R h]
  have hc : Spec.cgate R U = Spec.cgate R V := by
    funext o
    unfold Spec.cgate
    congr 1
    refine Finset.sum_congr rfl fun c _ => ?_
    congr 2
    exact Finset.sum_congr rfl fun l hl => h _ _ (Finset.mem_range.mp hl)
  have hm : Spec.mu R U = Spec.mu R V := by funext o; unfold Spec.mu; rw [hp]
  have hv : Spec.var R U = Spec.var R V := by funext o; unfold Spec.var; rw [hp, hm]
  funext l o
  unfold Spec.add Spec.gnorm
  rw [hp, hc, hm, hv]

/-- A time lies in one cycle. -/
theorem one_cycle (f : ℕ → ℝ) {p t : ℕ} (hp : 32 ≤ p) (ht : t < 2048) :
    ∑ l ∈ Finset.range 64, (if l * p ≤ t ∧ t < l * p + p then 1 else 0) * f l = f (t / p) := by
  have hq : t / p < 64 := by
    rw [Nat.div_lt_iff_lt_mul (by omega)]
    calc t < 64 * 32 := by omega
      _ ≤ 64 * p := Nat.mul_le_mul_left _ hp
  have hi : ∀ l, (l * p ≤ t ∧ t < l * p + p) ↔ t / p = l := fun l => by
    rw [Nat.div_eq_iff (by omega)]; omega
  rw [Finset.sum_eq_single (t / p) (fun l _ h => by rw [if_neg (fun e => h ((hi l).1 e).symm), zero_mul])
    (fun h => absurd (Finset.mem_range.mpr hq) h), if_pos ((hi _).2 rfl), one_mul]

/-- The periodic path as the kernel has it: the batch and the windows' weighted residuals. -/
theorem peri_eq (R : Spec.RW) (X : ℕ → ℕ → ℝ) {a b c : ℕ} (ha : 32 ≤ a) (hb : 32 ≤ b) (hc : 32 ≤ c) (u v w : ℝ) (hs : u + v + w = 1)
    {t : ℕ} (ht : t < 2048) (o : ℕ) :
    perK X (fun i t => if inW a b c i t then 1 else 0)
      (fun i o => (if i < 64 then u else if i < 128 then v else w) *
        Spec.add R (sec (fun i c' => Spec.cyc X (per3 a b c i) (i % 64) c') (i / 64)) (i % 64) o) t o
      = (X t o + Spec.add R (Spec.cyc X a) (t / a) o) * u + (X t o + Spec.add R (Spec.cyc X b) (t / b) o) * v
        + (X t o + Spec.add R (Spec.cyc X c) (t / c) o) * w := by
  unfold perK
  rw [show (192 : ℕ) = 64 + 64 + 64 by norm_num, Finset.sum_range_add, Finset.sum_range_add]
  have s : ∀ (k p : ℕ) (y : ℝ), 32 ≤ p → (∀ l, l < 64 → per3 a b c (64 * k + l) = p) →
      (∀ l, l < 64 → (if 64 * k + l < 64 then u else if 64 * k + l < 128 then v else w) = y) →
      ∑ l ∈ Finset.range 64, (if inW a b c (64 * k + l) t then 1 else 0) * ((if 64 * k + l < 64 then u else if 64 * k + l < 128 then v else w) *
        Spec.add R (sec (fun i c' => Spec.cyc X (per3 a b c i) (i % 64) c') ((64 * k + l) / 64)) ((64 * k + l) % 64) o)
      = y * Spec.add R (Spec.cyc X p) (t / p) o := by
    intro k p y hp hk hy
    rw [← one_cycle (fun l => y * Spec.add R (Spec.cyc X p) l o) hp ht]
    refine Finset.sum_congr rfl fun l hl => ?_
    have hl := Finset.mem_range.mp hl
    rw [hy l hl, show (64 * k + l) / 64 = k by omega, show (64 * k + l) % 64 = l by omega]
    rw [add_congr R (V := Spec.cyc X p) (fun l' c' hl' => by
      show Spec.cyc X (per3 a b c (64 * k + l')) ((64 * k + l') % 64) c' = _
      rw [hk l' hl', show (64 * k + l') % 64 = l' by omega])]
    congr 1
    refine if_congr ?_ rfl rfl
    unfold inW
    rw [hk l hl, show (64 * k + l) % 64 = l by omega]
  have s0 := s 0 a u ha (fun l hl => by unfold per3; rw [if_pos (by omega)]) (fun l hl => by rw [if_pos (by omega)])
  have s1 := s 1 b v hb (fun l hl => by unfold per3; rw [if_neg (by omega), if_pos (by omega)])
    (fun l hl => by rw [if_neg (by omega), if_pos (by omega)])
  have s2 := s 2 c w hc (fun l hl => by unfold per3; rw [if_neg (by omega), if_neg (by omega)])
    (fun l hl => by rw [if_neg (by omega), if_neg (by omega)])
  simp only [Nat.mul_zero, Nat.mul_one, zero_add, Nat.reduceMul, Nat.reduceAdd] at s0 s1 s2 ⊢
  rw [s0, s1, s2]
  have : X t o = X t o * (u + v + w) := by rw [hs, mul_one]
  nth_rewrite 1 [this]
  ring

/-- The result depends on the periodic path at the times of the batch only. -/
theorem fuse_congr (X L : ℕ → ℕ → ℝ) {P Q : ℕ → ℕ → ℝ} (g : ℝ) (h : ∀ t o, t < 2048 → P t o = Q t o) {t : ℕ} (ht : t < 2048) (o : ℕ) :
    Spec.fuse X L P g t o = Spec.fuse X L Q g t o := by
  unfold Spec.fuse
  rw [h t o ht, Finset.sum_congr rfl fun s hs => by rw [h s o (Finset.mem_range.mp hs)],
    Finset.sum_congr (s₁ := Finset.range 2048) (f := fun s => P s o * P s o) rfl fun s hs => by rw [h s o (Finset.mem_range.mp hs)]]

/-- The result of a batch. -/
theorem out_ap {W : Wts} {R : Spec.RW} (h : Holds W R) {lc : ℕ → ℕ → ℝ}
    (hW : ∀ (i : Fin 896) (j : Fin 128), W.lc (ix2 i j) = ((lc i j : ℝ) : EReal))
    (hlc : ∀ j c o, j < 7 → c < 128 → o < 128 → lc (128 * j + c) o = R.ldw j c * R.lpw o c)
    {A : FVec Ideal S2048x128 .f32} {X : ℕ → ℕ → ℝ}
    (hA : ∀ (i : Fin 2048) (j : Fin 128), A (ix2 i j) = ((X i j : ℝ) : EReal)) (t : Fin 2048) (o : Fin 128) :
    outB W A (ix3 0 t o) = ((Spec.out R X t o : ℝ) : EReal) := by
  have hr := KGram.autoc_ap hA
  have ha := Spec.p0_rng (Spec.acorr X)
  have hb := Spec.p1_rng (Spec.acorr X)
  have hc := Spec.p2_rng (Spec.acorr X)
  have i0 := KTop.idx0_ap hr
  have i1 := KTop.idx1_ap hr
  have i2 := KTop.idx2_ap hr
  have w0 := KTop.wt0_ap hr
  have w1 := KTop.wt1_ap hr
  have w2 := KTop.wt2_ap hr
  unfold outB outR
  rw [final_ap hA (KLocal.loc_ap W R hA hW hlc)
    (KGate.gate_ap (Spec.soft_pos _ _ _ _) (Spec.soft_pos _ _ _ _) (Spec.soft_pos _ _ _ _) w0 w1 w2)
    (m := fun i t => if inW (Spec.p0 (Spec.acorr X)) (Spec.p1 (Spec.acorr X)) (Spec.p2 (Spec.acorr X)) i t then 1 else 0)
    (win_ap ha hb hc i0 i1 i2)
    (xr := fun i o => (if i < 64 then Spec.w0 (Spec.acorr X) else if i < 128 then Spec.w1 (Spec.acorr X) else Spec.w2 (Spec.acorr X)) *
        Spec.add R (sec (fun i c' => Spec.cyc X (per3 (Spec.p0 (Spec.acorr X)) (Spec.p1 (Spec.acorr X)) (Spec.p2 (Spec.acorr X)) i) (i % 64) c')
          (i / 64)) (i % 64) o)
    (xres_ap h (fold_ap ha hb hc i0 i1 i2 hA) w0 w1 w2)]
  rw [fuse_congr X (Spec.local_ R X) _
    (fun t o ht => peri_eq R X ha.1 hb.1 hc.1 (Spec.w0 (Spec.acorr X)) (Spec.w1 (Spec.acorr X)) (Spec.w2 (Spec.acorr X)) (Spec.w_sum _) ht o) t.2]
  rfl

end Cert.KBatch

end
-- ==== Proof.Args.lean ====
/- The nine arguments as arrays of extended reals, the real arrays they hold when every entry is finite, and the result
   both programs are shown to compute from them. -/
module

public import proofs.«01_k».proof.Proof.Spec
public import proofs.«01_k».proof.KernelIdeal
public import Idealize.ShloMosaic.Lib.Pointwise

@[expose] public section

noncomputable section

namespace Cert.Args

open Idealize.ShloMosaic Idealize.SL.Sem
open Cert.KernelIdeal

/-- The real numbers of a family of one index, zero outside it. -/
def re1 {a : ℕ} (f : Fin a → EReal) (i : ℕ) : ℝ := if h : i < a then (f ⟨i, h⟩).toReal else 0

/-- The real numbers of a family of two indices, zero outside it. -/
def re2 {a b : ℕ} (f : Fin a → Fin b → EReal) (i j : ℕ) : ℝ := if h : i < a then re1 (f ⟨i, h⟩) j else 0

/-- The real numbers of a family of three indices, zero outside it. -/
def re3 {a b c : ℕ} (f : Fin a → Fin b → Fin c → EReal) (i j k : ℕ) : ℝ := if h : i < a then re2 (f ⟨i, h⟩) j k else 0

/-- At an index inside, the real number of the entry. -/
theorem re1_fin {a : ℕ} (f : Fin a → EReal) (i : Fin a) : re1 f i = (f i).toReal := dif_pos i.2
/-- At two indices inside, the real number of the entry. -/
theorem re2_fin {a b : ℕ} (f : Fin a → Fin b → EReal) (i : Fin a) (j : Fin b) : re2 f i j = (f i j).toReal :=
  (dif_pos i.2).trans (re1_fin _ _)
/-- At three indices inside, the real number of the entry. -/
theorem re3_fin {a b c : ℕ} (f : Fin a → Fin b → Fin c → EReal) (i : Fin a) (j : Fin b) (k : Fin c) :
    re3 f i j k = (f i j k).toReal := (dif_pos i.2).trans (re2_fin _ _ _)

/-- The nine arguments of one device. -/
structure Argv where
  x : FVec Ideal S4x2048x128 .f32
  dw : FVec Ideal S128x1x9 .f32
  pw : FVec Ideal S128x128 .f32
  gam : FVec Ideal S128 .f32
  bet : FVec Ideal S128 .f32
  gt : FVec Ideal S128x128 .f32
  res : FVec Ideal S1x128x1x1 .f32
  ldw : FVec Ideal S128x1x7 .f32
  lpw : FVec Ideal S128x128 .f32

/-- Every entry of the array is a real number. -/
def Real {s : Shape} (a : FVec Ideal s .f32) : Prop := ∀ i, (((a i).toReal : ℝ) : EReal) = a i

/-- Every argument's every entry is a real number. -/
structure Argv.Real (A : Argv) : Prop where
  x : Args.Real A.x
  dw : Args.Real A.dw
  pw : Args.Real A.pw
  gam : Args.Real A.gam
  bet : Args.Real A.bet
  gt : Args.Real A.gt
  res : Args.Real A.res
  ldw : Args.Real A.ldw
  lpw : Args.Real A.lpw

/-- The real weights. -/
def Argv.rw (A : Argv) : Spec.RW where
  dw := re2 fun (j : Fin 9) (c : Fin 128) => A.dw (ix3 c 0 j)
  gam := re1 fun c : Fin 128 => A.gam (ix1 c)
  bet := re1 fun c : Fin 128 => A.bet (ix1 c)
  res := re1 fun c : Fin 128 => A.res (ix4 0 c 0 0)
  pw := re2 fun o c : Fin 128 => A.pw (ix2 o c)
  gt := re2 fun o c : Fin 128 => A.gt (ix2 o c)
  ldw := re2 fun (j : Fin 7) (c : Fin 128) => A.ldw (ix3 c 0 j)
  lpw := re2 fun o c : Fin 128 => A.lpw (ix2 o c)

/-- The real series of batch `b`. -/
def Argv.xs (A : Argv) (b : ℕ) : ℕ → ℕ → ℝ := re3 (fun (b : Fin 4) (t : Fin 2048) (c : Fin 128) => A.x (ix3 b t c)) b

/-- The result of the two programs. -/
def Argv.result (A : Argv) : FVec Ideal S4x2048x128 .f32 := fun i =>
  ((Spec.out A.rw (A.xs ((i 0 : Fin 4) : ℕ)) ((i 1 : Fin 2048) : ℕ) ((i 2 : Fin 128) : ℕ) : ℝ) : EReal)

variable {A : Argv} (h : A.Real)

include h

/-- An entry of the series is its real number. -/
theorem x_ap (b : Fin 4) (t : Fin 2048) (c : Fin 128) : A.x (ix3 b t c) = ((A.xs b t c : ℝ) : EReal) := by
  rw [Argv.xs, re3_fin, h.x]
/-- An entry of the periods' depthwise weights is its real number. -/
theorem dw_ap (j : Fin 9) (c : Fin 128) : A.dw (ix3 c 0 j) = ((A.rw.dw j c : ℝ) : EReal) := by
  simp only [Argv.rw]; rw [re2_fin, h.dw]
/-- An entry of the periods' pointwise weights is its real number. -/
theorem pw_ap (o c : Fin 128) : A.pw (ix2 o c) = ((A.rw.pw o c : ℝ) : EReal) := by
  simp only [Argv.rw]; rw [re2_fin, h.pw]
/-- An entry of the norm's scale is its real number. -/
theorem gam_ap (c : Fin 128) : A.gam (ix1 c) = ((A.rw.gam c : ℝ) : EReal) := by
  simp only [Argv.rw]; rw [re1_fin, h.gam]
/-- An entry of the norm's shift is its real number. -/
theorem bet_ap (c : Fin 128) : A.bet (ix1 c) = ((A.rw.bet c : ℝ) : EReal) := by
  simp only [Argv.rw]; rw [re1_fin, h.bet]
/-- An entry of the gate's weights is its real number. -/
theorem gt_ap (o c : Fin 128) : A.gt (ix2 o c) = ((A.rw.gt o c : ℝ) : EReal) := by
  simp only [Argv.rw]; rw [re2_fin, h.gt]
/-- An entry of the residual's scale is its real number. -/
theorem res_ap (c : Fin 128) : A.res (ix4 0 c 0 0) = ((A.rw.res c : ℝ) : EReal) := by
  simp only [Argv.rw]; rw [re1_fin, h.res]
/-- An entry of the local depthwise weights is its real number. -/
theorem ldw_ap (j : Fin 7) (c : Fin 128) : A.ldw (ix3 c 0 j) = ((A.rw.ldw j c : ℝ) : EReal) := by
  simp only [Argv.rw]; rw [re2_fin, h.ldw]
/-- An entry of the local pointwise weights is its real number. -/
theorem lpw_ap (o c : Fin 128) : A.lpw (ix2 o c) = ((A.rw.lpw o c : ℝ) : EReal) := by
  simp only [Argv.rw]; rw [re2_fin, h.lpw]

end Cert.Args

end
-- ==== Proof.KPack.lean ====
/- The packed weights: the array the host operations make of the eight weight arguments, and what the body reads of it. -/
module

public import proofs.«01_k».proof.Proof.KBatch
public import proofs.«01_k».proof.Proof.Args
public import proofs.«01_k».proof.Proof.Gen.KernelIdeal.Value
public import Idealize.ShloMosaic.Lib.Pointwise
public import Idealize.ShloMosaic.Lib.Claim

@[expose] public section

set_option maxRecDepth 16384

noncomputable section

namespace Cert.KPack

open Idealize.ShloMosaic Idealize.SL.Sem
open Cert.KernelIdeal Cert.KernelIdeal.Gen Cert.Stage Cert.Consts Cert.Words

variable (m : (ℓ : Loc nD τ sig) → Buf (Elt Ideal) ℓ)

/-- The arguments of device `c`. -/
def argv (c : Dev nD) : Args.Argv where
  x := m (c, Proc.tc.devRef main_arg0)
  dw := m (c, Proc.tc.devRef main_arg1)
  pw := m (c, Proc.tc.devRef main_arg2)
  gam := m (c, Proc.tc.devRef main_arg3)
  bet := m (c, Proc.tc.devRef main_arg4)
  gt := m (c, Proc.tc.devRef main_arg5)
  res := m (c, Proc.tc.devRef main_arg6)
  ldw := m (c, Proc.tc.devRef main_arg7)
  lpw := m (c, Proc.tc.devRef main_arg8)

/-! ### The pieces of the packed array -/

/-- The packed depthwise weights are the argument, transposed. -/
theorem dw_ap (c : Dev nD) (i : Fin 9) (j : Fin 128) : V m c main_v1 (ix2 i j) = (argv m c).dw (ix3 j 0 i) := by
  entry_read
  pointwise
  rfl
/-- The packed scale of the norm is the argument. -/
theorem gam_ap (c : Dev nD) (j : Fin 128) : V m c main_v2 (ix2 0 j) = (argv m c).gam (ix1 j) := by
  entry_read
  pointwise
  rfl
/-- The packed shift of the norm is the argument. -/
theorem bet_ap (c : Dev nD) (j : Fin 128) : V m c main_v3 (ix2 0 j) = (argv m c).bet (ix1 j) := by
  entry_read
  pointwise
  rfl
/-- The packed scale of the residual is the argument. -/
theorem res_ap (c : Dev nD) (j : Fin 128) : V m c main_v4 (ix2 0 j) = (argv m c).res (ix4 0 j 0 0) := by
  entry_read
  pointwise
  rfl
/-- The packed pointwise weights are the argument, transposed. -/
theorem pw_ap (c : Dev nD) (i j : Fin 128) : V m c main_v6 (ix2 i j) = (argv m c).pw (ix2 j i) := by
  entry_read
  pointwise
  rfl
/-- The packed weights of the gate are the argument, transposed. -/
theorem gt_ap (c : Dev nD) (i j : Fin 128) : V m c main_v7 (ix2 i j) = (argv m c).gt (ix2 j i) := by
  entry_read
  pointwise
  rfl
/-- The packed local weights are products of a depthwise and a pointwise weight. -/
theorem lc_ap (c : Dev nD) (i : Fin 896) (j : Fin 128) :
    V m c main_v16 (ix2 i j) = (argv m c).ldw (ix3 ⟨i % 128, Nat.mod_lt _ (by omega)⟩ 0 ⟨i / 128, by omega⟩)
      * (argv m c).lpw (ix2 j ⟨i % 128, Nat.mod_lt _ (by omega)⟩) := by
  entry_read
  pointwise
  rfl

/-- The packed array is its eight pieces, one under the other. -/
theorem packed (c : Dev nD) :
    V m c main_v17 = concatenate S1168x128 0 [⟨S9x128, V m c main_v1⟩, ⟨S1x128, V m c main_v2⟩, ⟨S1x128, V m c main_v3⟩,
      ⟨S1x128, V m c main_v4⟩, ⟨S4x128, V m c main_v5⟩, ⟨S128x128, V m c main_v6⟩, ⟨S128x128, V m c main_v7⟩,
      ⟨S896x128, V m c main_v16⟩]
      concatenates_S9x128_S1x128_S1x128_S1x128_S4x128_S128x128_S128x128_S896x128_S1168x128_d0 := by
  unfold V
  simp only [hostOps0, List.flatten_cons, List.flatten_nil, List.append_nil, List.cons_append, List.nil_append,
    StableHlo.after_cons, StableHlo.after_nil]
  rw [StableHlo.nary_result']
  repeat rw [StableHlo.nary_result_ne' (h := by decide)]
  rfl

/-- Eight pieces, one under the other. -/
abbrev cat (p1 : FVec Ideal S9x128 .f32) (p2 p3 p4 : FVec Ideal S1x128 .f32) (p5 : FVec Ideal S4x128 .f32)
    (p6 p7 : FVec Ideal S128x128 .f32) (p8 : FVec Ideal S896x128 .f32) : FVec Ideal S1168x128 .f32 :=
  concatenate S1168x128 0 [⟨S9x128, p1⟩, ⟨S1x128, p2⟩, ⟨S1x128, p3⟩, ⟨S1x128, p4⟩, ⟨S4x128, p5⟩, ⟨S128x128, p6⟩, ⟨S128x128, p7⟩,
    ⟨S896x128, p8⟩] concatenates_S9x128_S1x128_S1x128_S1x128_S4x128_S128x128_S128x128_S896x128_S1168x128_d0

section
variable (p1 : FVec Ideal S9x128 .f32) (p2 p3 p4 : FVec Ideal S1x128 .f32) (p5 : FVec Ideal S4x128 .f32)
  (p6 p7 : FVec Ideal S128x128 .f32) (p8 : FVec Ideal S896x128 .f32)

/-- The rows from 16 on are the sixth piece. -/
theorem cat6 (i j : Fin 128) (h : 16 + (i : ℕ) < 1168) : cat p1 p2 p3 p4 p5 p6 p7 p8 (ix2 ⟨16 + i, h⟩ j) = p6 (ix2 i j) := by
  pointwise
  rw [dif_neg (by omega), dif_neg (by omega), dif_neg (by omega), dif_neg (by omega), dif_neg (by omega), dif_pos (by omega)]
  congr 2
  exact Fin.ext (by simp only []; omega)

/-- The rows from 144 on are the seventh piece. -/
theorem cat7 (i j : Fin 128) (h : 144 + (i : ℕ) < 1168) : cat p1 p2 p3 p4 p5 p6 p7 p8 (ix2 ⟨144 + i, h⟩ j) = p7 (ix2 i j) := by
  pointwise
  rw [dif_neg (by omega), dif_neg (by omega), dif_neg (by omega), dif_neg (by omega), dif_neg (by omega), dif_neg (by omega),
    dif_pos (by omega)]
  congr 2
  exact Fin.ext (by simp only []; omega)

/-- The rows from 272 on are the eighth piece. -/
theorem cat8 (i : Fin 896) (j : Fin 128) (h : 272 + (i : ℕ) < 1168) :
    cat p1 p2 p3 p4 p5 p6 p7 p8 (ix2 ⟨272 + i, h⟩ j) = p8 (ix2 i j) := by
  pointwise
  rw [dif_neg (by omega), dif_neg (by omega), dif_neg (by omega), dif_neg (by omega), dif_neg (by omega), dif_neg (by omega),
    dif_neg (by omega)]
  congr 2
  exact Fin.ext (by simp only []; omega)
end

/-! ### What the body reads -/

/-- The weights the body reads of the packed array are the arguments' real ones. -/
theorem holds (c : Dev nD) (h : (argv m c).Real) (x0) : KConv.Holds (wts x0 (V m c main_v17)) (argv m c).rw where
  dw i j := by
    rw [← Args.dw_ap h, ← dw_ap]
    unfold wts
    pointwise [k0_pay146, k0_pay2]
    rw [packed]
    pointwise
  gam j := by
    rw [← Args.gam_ap h, ← gam_ap]
    unfold wts
    pointwise [k0_pay147, k0_pay3]
    rw [packed]
    pointwise
  bet j := by
    rw [← Args.bet_ap h, ← bet_ap]
    unfold wts
    pointwise [k0_pay148, k0_pay4]
    rw [packed]
    pointwise
  res j := by
    rw [← Args.res_ap h, ← res_ap]
    unfold wts
    pointwise [k0_pay149, k0_pay5]
    rw [packed]
    pointwise
  pw i j := by
    rw [← Args.pw_ap h, ← pw_ap]
    unfold wts
    pointwise [k0_pay150, k0_pay6]
    rw [packed]
    exact cat6 _ _ _ _ _ _ _ _ i j _
  gt i j := by
    rw [← Args.gt_ap h, ← gt_ap]
    unfold wts
    pointwise [k0_pay151, k0_pay7]
    rw [packed]
    exact cat7 _ _ _ _ _ _ _ _ i j _

/-- The real weights of the local path, tap by tap and channel by channel. -/
def lc (c : Dev nD) (i o : ℕ) : ℝ := (argv m c).rw.ldw (i / 128) (i % 128) * (argv m c).rw.lpw o (i % 128)

/-- The local weights the body reads are the products of the arguments' real ones. -/
theorem holds_lc (c : Dev nD) (h : (argv m c).Real) (x0) (i : Fin 896) (j : Fin 128) :
    (wts x0 (V m c main_v17)).lc (ix2 i j) = ((lc m c i j : ℝ) : EReal) := by
  have e : (wts x0 (V m c main_v17)).lc (ix2 i j) = V m c main_v16 (ix2 i j) := by
    unfold wts
    pointwise [k0_pay152, k0_pay8]
    rw [packed]
    exact cat8 _ _ _ _ _ _ _ _ i j _
  rw [e, lc_ap, Args.ldw_ap h, Args.lpw_ap h, ← EReal.coe_mul]
  rfl

/-- The real local weights are the products of the real weights. -/
theorem lc_eq (c : Dev nD) (j c' o : ℕ) (_ : j < 7) (hc : c' < 128) (_ : o < 128) :
    lc m c (128 * j + c') o = (argv m c).rw.ldw j c' * (argv m c).rw.lpw o c' := by
  unfold lc
  rw [show (128 * j + c') / 128 = j by omega, show (128 * j + c') % 128 = c' by omega]

/-- The first batch of a block. -/
theorem x0_ap (x0 : Vec Ideal S2x2048x128 .f32) (x1 : Vec Ideal S1168x128 .f32) (i : Fin 2048) (j : Fin 128) :
    k0_pay153 x0 x1 (ix2 i j) = x0 (ix3 0 i j) := by
  pointwise [k0_pay153, k0_pay9]

/-- The second batch of a block. -/
theorem x1_ap (x0 : Vec Ideal S2x2048x128 .f32) (x1 : Vec Ideal S1168x128 .f32) (i : Fin 2048) (j : Fin 128) :
    k0_pay154 x0 x1 (ix2 i j) = x0 (ix3 1 i j) := by
  pointwise [k0_pay154, k0_pay10]

end Cert.KPack

end
-- ==== Proof.KRun.lean ====
/- The kernel launch: its result array, point by point and batch by batch, and the run. -/
module

public import proofs.«01_k».proof.Proof.KPack
public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.KRun

open Idealize.ShloMosaic Idealize.ShloMosaic.TcCoe Idealize.SL.Sem
open Cert.KernelIdeal Cert.KernelIdeal.Gen Cert.Stage Cert.Consts Cert.Words

open Idealize.ShloMosaic.Pipeline (Dat)

variable (m : (ℓ : Loc nD τ sig) → Buf (Elt Ideal) ℓ)

/-- The second window's one block is the packed array. -/
theorem iblk1_eq (c : Dev nD) (t : Fin cfg0.N) : iblk m c 1 t = V m c main_v17 := by
  have idx : win0_1.index t 0 = 0 ∧ win0_1.index t 1 = 0 := by
    rcases fin_N0 t with rfl | rfl <;> decide +kernel
  funext i
  show iblk m c 1 t i = V m c main_v17 i
  unfold iblk
  show V m c main_v17 _ = V m c main_v17 _
  generalize V m c main_v17 = w
  blk_ext [idx]

/-- The first window's block at a point is two batches of the series. -/
theorem iblk0_eq (c : Dev nD) (t : Fin cfg0.N) (i : Fin 2) (j : Fin 2048) (k : Fin 128) (h : 2 * (t : ℕ) + i < 4) :
    iblk m c 0 t (ix3 i j k) = (KPack.argv m c).x (ix3 ⟨2 * t + i, h⟩ j k) := by
  have idx : win0_0.index t 0 = t ∧ win0_0.index t 1 = 0 ∧ win0_0.index t 2 = 0 := by
    rcases fin_N0 t with rfl | rfl <;> decide +kernel
  show iblk m c 0 t (ix3 i j k) = m (c, Proc.tc.devRef main_arg0) _
  blk_ext [iblk, V, idx]

/-- A stored batch at an index: the result at the index it lands on. -/
theorem batch (c : Dev nD) (h : (KPack.argv m c).Real) (x0 : Vec Ideal S2x2048x128 .f32) (A : FVec Ideal S2048x128 .f32) (b : Fin 4)
    (hA : ∀ (i : Fin 2048) (j : Fin 128), A (ix2 i j) = (KPack.argv m c).x (ix3 b i j)) (t : Fin 2048) (o : Fin 128) :
    outB (wts x0 (V m c main_v17)) A (ix3 0 t o) = (KPack.argv m c).result (ix3 b t o) :=
  KBatch.out_ap (KPack.holds m c h x0) (KPack.holds_lc m c h x0) (KPack.lc_eq m c)
    (fun i j => (hA i j).trans (Args.x_ap h b i j)) t o

/-- The result array ends at the result. -/
theorem final (c : Dev nD) (h : (KPack.argv m c).Real) : (dats m 0 c).arrAt 2 cfg0.N = (KPack.argv m c).result := by
  refine (dats m 0 c).arrAt_eq_of_covers 2 _ (by decide +kernel) fun t hf y => ?_
  have hN : cfg0.N = 2 := N_0
  have ht : (t : ℕ) < cfg0.N := t.2
  have idx : win0_2.index t 0 = t ∧ win0_2.index t 1 = 0 ∧ win0_2.index t 2 = 0 := by
    rcases fin_N0 t with rfl | rfl <;> decide +kernel
  blk_simp
  rw [after0_2, iblk1_eq]
  unfold out0_2
  canon_tiles x hx
  · refine (congrFun (out_1 _ _) x).trans ?_
    have hx : x = ix3 0 (x 1) (x 2) := by blk_ext
    rw [hx]
    refine (batch m c h _ _ ⟨2 * t + 1, by omega⟩ (fun i j => (KPack.x1_ap _ _ i j).trans (iblk0_eq m c t 1 i j (by simp only [Fin.val_one]; omega))) _ _).trans ?_
    blk_ext [idx]
  · refine (congrFun (out_0 _ _) x).trans ?_
    have hx : x = ix3 0 (x 1) (x 2) := by blk_ext
    rw [hx]
    refine (batch m c h _ _ ⟨2 * t, by omega⟩ (fun i j => (KPack.x0_ap _ _ i j).trans (iblk0_eq m c t 0 i j (by simp only [Fin.val_zero]; omega))) _ _).trans ?_
    blk_ext [idx]

/-- The run: the result array ends at the result, the arguments as launched. -/
theorem run (ρ : Dev nD → PrngReg) (h : ∀ c, (KPack.argv m c).Real) :
    θ_run defs (onTc (τ := τ) (main (F := Ideal))) ⟨m, fun _ => 0, ρ⟩ fun r => ∀ c : Dev nD,
      r.2.mem ((c : Thread nD τ).loc main_v18) = (KPack.argv m c).result
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h' c => ⟨(h' c).1.trans (final m c (h c)), (h' c).2⟩) (Value.run_blocks m ρ)

end Cert.KRun

end
-- ==== Proof.RGather.lean ====
/- The three gathers of the reference, read at an index: the operand at the place its index names. -/
module

public import proofs.«01_k».proof.Proof.Words
public import proofs.«01_k».proof.Proof.Gen.ReferenceIdeal.Run
public import Idealize.ShloMosaic.Lib.Pointwise

@[expose] public section

set_option maxRecDepth 16384

noncomputable section

namespace Cert.RGather

open Idealize.ShloMosaic Idealize.SL.Sem
open Cert.ReferenceIdeal Cert.ReferenceIdeal.Gen Cert.ReferenceIdeal.Value Cert.Consts Cert.Words

variable {α : Type}

/-- A small word read as an integer and clamped from above by a bound that it meets. -/
theorem clamp {n k : ℕ} (h : n ≤ k) (hn : n < 2147483648) : min (BitVec.ofNat 32 n).toInt.toNat k = n := by
  rw [WordCmp.toInt_ofNat_of_lt (by omega), Int.toNat_natCast, min_eq_left h]

/-- The shifted series: time is gathered. -/
theorem shift_ap (x : S4x2048x128.Idx → α) (idx : IVec S2048x2048x1 32) (b : Fin 4) (l t : Fin 2048) (c : Fin 128) {n : ℕ} (hn : n < 2048)
    (h : idx (ix3 l t 0) = BitVec.ofNat 32 n) :
    Host.gather gather_S4x2048x128_S2048x2048x1_S4x2048x2048x128_03_1_n_n_1_2_41128 x idx (ix4 b l t c) = x (ix3 b ⟨n, hn⟩ c) := by
  unfold Host.gather
  congr 1
  funext a
  refine Fin.ext ?_
  fin_cases a
  · show 0 + 0 + (b : ℕ) = b
    omega
  · show min (idx _).toInt.toNat 2047 + 0 + 0 = n
    rw [show idx _ = BitVec.ofNat 32 n from (congrArg idx (funext fun b => Fin.ext (by fin_cases b <;> rfl))).trans h,
      clamp (by omega) (by omega), Nat.add_zero]
  · show 0 + 0 + (c : ℕ) = c
    omega

/-- The folded series: time is gathered, period by period. -/
theorem fold_ap (x : S12x2048x128.Idx → α) (idx : IVec S12x64x128x1 32) (q : Fin 12) (l : Fin 64) (s c : Fin 128) {n : ℕ} (hn : n < 2048)
    (h : idx (ix4 q l s 0) = BitVec.ofNat 32 n) :
    Host.gather gather_S12x2048x128_S12x64x128x1_S12x64x128x128_3_1_0_0_1_3_11128 x idx (ix4 q l s c) = x (ix3 q ⟨n, hn⟩ c) := by
  unfold Host.gather
  congr 1
  funext a
  refine Fin.ext ?_
  fin_cases a
  · show 0 + (q : ℕ) + 0 = q
    omega
  · show min (idx _).toInt.toNat 2047 + 0 + 0 = n
    rw [show idx _ = BitVec.ofNat 32 n from (congrArg idx (funext fun b => Fin.ext (by fin_cases b <;> rfl))).trans h,
      clamp (by omega) (by omega), Nat.add_zero]
  · show 0 + 0 + (c : ℕ) = c
    omega

/-- The unfolded cycles: the place is gathered, period by period. -/
theorem unfold_ap (x : S12x128x8192.Idx → α) (idx : IVec S12x2048x1 32) (q : Fin 12) (c : Fin 128) (t : Fin 2048) {n : ℕ} (hn : n < 8192)
    (h : idx (ix3 q t 0) = BitVec.ofNat 32 n) :
    Host.gather gather_S12x128x8192_S12x2048x1_S12x128x2048_1_2_0_0_2_2_11281 x idx (ix3 q c t) = x (ix3 q c ⟨n, hn⟩) := by
  unfold Host.gather
  congr 1
  funext a
  refine Fin.ext ?_
  fin_cases a
  · show 0 + (q : ℕ) + 0 = q
    omega
  · show 0 + 0 + (c : ℕ) = c
    omega
  · show min (idx _).toInt.toNat 8191 + 0 + 0 = n
    rw [show idx _ = BitVec.ofNat 32 n from (congrArg idx (funext fun b => Fin.ext (by fin_cases b <;> rfl))).trans h,
      clamp (by omega) (by omega), Nat.add_zero]

end Cert.RGather

end
-- ==== Proof.RArgs.lean ====
/- The arguments of the reference. -/
module

public import proofs.«01_k».proof.Proof.Words
public import proofs.«01_k».proof.Proof.Args
public import proofs.«01_k».proof.Proof.RGather
public import proofs.«01_k».proof.Proof.Gen.ReferenceIdeal.Run

@[expose] public section

noncomputable section

namespace Cert.RArgs

open Idealize.ShloMosaic Idealize.SL.Sem
open Cert.ReferenceIdeal

/-- The arguments among the contents of a device's buffers. -/
def rargv (V0 : Valuation τ sig (Elt Ideal)) : Args.Argv where
  x := V0 (Proc.tc.devRef main_arg0)
  dw := V0 (Proc.tc.devRef main_arg1)
  pw := V0 (Proc.tc.devRef main_arg2)
  gam := V0 (Proc.tc.devRef main_arg3)
  bet := V0 (Proc.tc.devRef main_arg4)
  gt := V0 (Proc.tc.devRef main_arg5)
  res := V0 (Proc.tc.devRef main_arg6)
  ldw := V0 (Proc.tc.devRef main_arg7)
  lpw := V0 (Proc.tc.devRef main_arg8)

variable {V0 : Valuation τ sig (Elt Ideal)} (h : (rargv V0).Real)

include h

/-- An entry of the series is its real number. -/
theorem x_ap (b : Fin 4) (t : Fin 2048) (c : Fin 128) : V0 (Proc.tc.devRef main_arg0) (ix3 b t c) = (((rargv V0).xs b t c : ℝ) : EReal) :=
  Args.x_ap h b t c
/-- An entry of the periods' depthwise weights is its real number. -/
theorem dw_ap (j : Fin 9) (c : Fin 128) : V0 (Proc.tc.devRef main_arg1) (ix3 c 0 j) = (((rargv V0).rw.dw j c : ℝ) : EReal) :=
  Args.dw_ap h j c
/-- An entry of the periods' pointwise weights is its real number. -/
theorem pw_ap (o c : Fin 128) : V0 (Proc.tc.devRef main_arg2) (ix2 o c) = (((rargv V0).rw.pw o c : ℝ) : EReal) := Args.pw_ap h o c
/-- An entry of the norm's scale is its real number. -/
theorem gam_ap (c : Fin 128) : V0 (Proc.tc.devRef main_arg3) (ix1 c) = (((rargv V0).rw.gam c : ℝ) : EReal) := Args.gam_ap h c
/-- An entry of the norm's shift is its real number. -/
theorem bet_ap (c : Fin 128) : V0 (Proc.tc.devRef main_arg4) (ix1 c) = (((rargv V0).rw.bet c : ℝ) : EReal) := Args.bet_ap h c
/-- An entry of the gate's weights is its real number. -/
theorem gt_ap (o c : Fin 128) : V0 (Proc.tc.devRef main_arg5) (ix2 o c) = (((rargv V0).rw.gt o c : ℝ) : EReal) := Args.gt_ap h o c
/-- An entry of the residual's scale is its real number. -/
theorem res_ap (c : Fin 128) : V0 (Proc.tc.devRef main_arg6) (ix4 0 c 0 0) = (((rargv V0).rw.res c : ℝ) : EReal) := Args.res_ap h c
/-- An entry of the local depthwise weights is its real number. -/
theorem ldw_ap (j : Fin 7) (c : Fin 128) : V0 (Proc.tc.devRef main_arg7) (ix3 c 0 j) = (((rargv V0).rw.ldw j c : ℝ) : EReal) :=
  Args.ldw_ap h j c
/-- An entry of the local pointwise weights is its real number. -/
theorem lpw_ap (o c : Fin 128) : V0 (Proc.tc.devRef main_arg8) (ix2 o c) = (((rargv V0).rw.lpw o c : ℝ) : EReal) := Args.lpw_ap h o c

end Cert.RArgs

end
-- ==== Proof.RGram.lean ====
/- The reference's autocorrelation: the shifted products, their mean over the channels, and the mask of the lags. -/
module

public import proofs.«01_k».proof.Proof.RArgs
public import Idealize.ShloMosaic.Lib.Pointwise

@[expose] public section

set_option maxRecDepth 16384

noncomputable section

namespace Cert.RGram

open Idealize.ShloMosaic Idealize.SL.Sem
open Cert.ReferenceIdeal Cert.ReferenceIdeal.Gen Cert.ReferenceIdeal.Value Cert.Consts Cert.Words Cert.RArgs

variable {V0 : Valuation τ sig (Elt Ideal)}

/-- The length of the series, as a word. -/
theorem len_ap : res_main_call0_v2 V0 ix0 = BitVec.ofNat 32 2048 := by
  pointwise [res_main_call0_v2, res_main_call0_v0]
  rfl

/-- The shifted time. -/
theorem time_ap (l t : Fin 2048) : res_main_call0_v4 V0 (ix2 l t) = BitVec.ofNat 32 (((t : ℕ) + l) % 2048) := by
  have := l.2; have := t.2
  pointwise [res_main_call0_v4, res_main_v0]
  rw [len_ap, add_w, rem_w _ (by omega) (by omega) (by omega), Nat.add_comm]

/-- The shifted series at a place whose index holds the shifted time. -/
theorem shift_ap (h : (rargv V0).Real) (b : Fin 4) (l t : Fin 2048) (c : Fin 128) {idx : IVec S2048x2048x1 32}
    (hi : idx (ix3 l t 0) = BitVec.ofNat 32 (((t : ℕ) + l) % 2048)) :
    Host.gather gather_S4x2048x128_S2048x2048x1_S4x2048x2048x128_03_1_n_n_1_2_41128 (V0 (Proc.tc.devRef main_arg0)) idx (ix4 b l t c)
      = (((rargv V0).xs b ((t + l) % 2048) c : ℝ) : EReal) :=
  (RGather.shift_ap _ idx b l t c (Nat.mod_lt _ (by omega)) hi).trans (x_ap h b ⟨_, Nat.mod_lt _ (by omega)⟩ c)

/-- The masked autocorrelation of a batch at a lag. -/
theorem acorr_ap (h : (rargv V0).Real) (b : Fin 4) (l : Fin 2048) :
    res_main_v22 V0 (ix2 b l)
      = if 32 ≤ (l : ℕ) ∧ (l : ℕ) ≤ 128 then ((Spec.acorr ((rargv V0).xs b) l : ℝ) : EReal) else ⊥ := by
  have hl := l.2
  pointwise [res_main_v22, res_main_v15]
  simp (disch := omega) only [sge_w, sle_w, and_b, sel_b]
  rw [show (id (constant (F := Ideal) S_ FTy.f32 4286578688#32) ix0) = (⊥ : EReal) from c_bot]
  refine if_congr Iff.rfl ?_ rfl
  have hi : ∀ t : Fin 2048, (broadcastInDim S2048x2048x1 ![0, 1] bcast_S2048x2048_S2048x2048x1_0_1 (select (andi (cmpi .ne (cmpi .slt (res_main_call0_v4 V0) (broadcastInDim S2048x2048 ![] bcast_S_S2048x2048 (constantI S_ 32 0#32))) (broadcastInDim S2048x2048 ![] bcast_S_S2048x2048 (cmpi .slt (res_main_call0_v2 V0) (constantI S_ 32 0#32)))) (cmpi .ne (res_main_call0_v4 V0) (broadcastInDim S2048x2048 ![] bcast_S_S2048x2048 (constantI S_ 32 0#32)))) (addi (res_main_call0_v4 V0) (broadcastInDim S2048x2048 ![] bcast_S_S2048x2048 (res_main_call0_v2 V0))) (res_main_call0_v4 V0))) (ix3 l t 0) = BitVec.ofNat 32 (((t : ℕ) + l) % 2048) := by
    intro t
    have := t.2
    pointwise
    rw [time_ap, len_ap]
    simp (disch := omega) only [slt_w, ne_w, ne_b, and_b, add_w, sel_b]
    rw [if_neg (by omega)]
  simp only [shift_ap h b l _ _ (hi _), x_ap h]
  simp only [← EReal.coe_mul, c_128]
  simp only [coe_sum]
  rw [div_real _ (by norm_num)]
  unfold Spec.acorr
  simp only [Finset.sum_range]

end Cert.RGram

end
-- ==== Proof.RTop.lean ====
/- The three periods and their weights in the reference: the first three places of the stable sort of the masked autocorrelation. -/
module

public import proofs.«01_k».proof.Proof.RGram
public import Idealize.ShloMosaic.Lib.Pointwise
public import Idealize.ShloMosaic.Lib.SortPrefix

@[expose] public section

set_option maxRecDepth 16384

noncomputable section

namespace Cert.RTop

open Idealize.ShloMosaic Idealize.SL.Sem
open Cert.ReferenceIdeal Cert.ReferenceIdeal.Gen Cert.ReferenceIdeal.Value Cert.Consts Cert.Words Cert.RArgs

variable {V0 : Valuation τ sig (Elt Ideal)}

/-! ### The first three places of a stable sort -/

/-- A stable sort of a list looks at a relation only from a later element to an earlier one. -/
theorem sort_congr {ι : Type} (R R' : ι → ι → Bool) {l : List ι} (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- The greater value first, the lower place first among equals. -/
def bef {n : ℕ} (x : Fin n → EReal) (k k' : Fin n) : Bool := decide (x k' < x k) || (decide (x k = x k') && decide (k < k'))

/-- The order of the sort is total. -/
theorem bef_total {n : ℕ} (x : Fin n → EReal) : StrictTotalBefore (bef x) :=
  StrictTotalBefore.of_key_then_position (fun a b : EReal => decide (b < a)) x (fun a => by simp)
    (fun a b c h h' => by simp only [decide_eq_true_eq] at *; exact h'.trans h)
    (fun a b => by simp only [decide_eq_true_eq]; rcases lt_trichotomy a b with h | h | h <;> simp [h])

/-- The stable sort by the values alone is the sort by the values and then the places. -/
theorem sorted_eq {n : ℕ} (x : Fin n → EReal) : sortedFrom (fun k k' => decide (x k' < x k)) = sortedFrom (bef x) := by
  funext k
  unfold sortedFrom
  have e : sortPositions n (fun k k' => decide (x k' < x k)) = sortPositions n (bef x) :=
    sort_congr _ _ ((List.pairwise_lt_finRange n).imp fun {a b} hab => by
      unfold bef
      rw [decide_eq_false (not_lt.mpr hab.le), Bool.and_false, Bool.or_false])
  rw [List.get_of_eq e]
  rfl

section
variable {x : Fin 2048 → EReal} {f : ℕ → ℝ} (hx : ∀ l : Fin 2048, x l = if (l : ℕ) ∈ Spec.lags then ((f l : ℝ) : EReal) else ⊥)

/-- The lags in use are among the 2048. -/
theorem lag_lt {n : ℕ} (h : n ∈ Spec.lags) : n < 2048 := by simp only [Spec.lags, Finset.mem_Icc] at h; omega

include hx

/-- Nothing that is not a lag, and nothing of a set of lags, comes before the set's best. -/
theorem dom {S : Finset ℕ} (hS : S ⊆ Spec.lags) (hn : S.Nonempty) {i p : Fin 2048} (hi : (i : ℕ) = Spec.best f S)
    (hp : (p : ℕ) ∈ Spec.lags → (p : ℕ) ∈ S) : bef x p i = false := by
  obtain ⟨hm, hb⟩ := Spec.best_spec f hn
  unfold bef
  rw [hx p, hx i, hi, if_pos (hS hm)]
  by_cases h : (p : ℕ) ∈ Spec.lags
  · rw [if_pos h]
    have h1 := hb _ (hp h)
    simp only [EReal.coe_lt_coe_iff, EReal.coe_eq_coe_iff, Bool.or_eq_false_iff, Bool.and_eq_false_iff, decide_eq_false_iff_not]
    refine ⟨not_lt.mpr h1, ?_⟩
    by_cases he : f p = f (Spec.best f S)
    · refine Or.inr fun hlt => ?_
      have := Spec.best_le f (hp h) (i := p) (fun j hj => he ▸ hb j hj)
      have : (p : ℕ) < i := hlt
      omega
    · exact Or.inl he
  · rw [if_neg h]
    simp

/-- The three periods are the first three places. -/
theorem first3 (k : Fin 3) : ((sortedFrom (fun k k' => decide (x k' < x k)) (k.castLE (by omega)) : Fin 2048) : ℕ)
    = ![Spec.p0 f, Spec.p1 f, Spec.p2 f] k := by
  have m0 := Spec.p0_mem f
  have m1 := Spec.p1_mem f
  have m2 := Spec.p2_mem f
  have n1 := m1; have n2 := m2
  simp only [Finset.mem_erase] at n1 n2
  obtain ⟨d1, l1⟩ := n1
  obtain ⟨d2, d3, l2⟩ := n2
  have s1 : Spec.lags.erase (Spec.p0 f) ⊆ Spec.lags := Finset.erase_subset _ _
  have s2 : (Spec.lags.erase (Spec.p0 f)).erase (Spec.p1 f) ⊆ Spec.lags := (Finset.erase_subset _ _).trans s1
  let σ : Fin 3 → Fin 2048 := ![⟨Spec.p0 f, lag_lt m0⟩, ⟨Spec.p1 f, lag_lt l1⟩, ⟨Spec.p2 f, lag_lt l2⟩]
  have v0 : ((σ 0 : Fin 2048) : ℕ) = Spec.p0 f := rfl
  have v1 : ((σ 1 : Fin 2048) : ℕ) = Spec.p1 f := rfl
  have v2 : ((σ 2 : Fin 2048) : ℕ) = Spec.p2 f := rfl
  have D : ∀ (i : Fin 3) (p : Fin 2048), (∀ j, j < i → p ≠ σ j) → bef x p (σ i) = false := by
    intro i p h
    fin_cases i
    · exact dom hx (Finset.Subset.refl _) Spec.lags_nonempty v0 fun hp => hp
    · refine dom hx s1 (Spec.lags1_nonempty _) v1 fun hp => ?_
      have := h 0 (by decide)
      exact Finset.mem_erase.mpr ⟨fun e => this (Fin.ext e), hp⟩
    · refine dom hx s2 (Spec.lags2_nonempty _ _) v2 fun hp => ?_
      have h0 := h 0 (by decide)
      have h1 := h 1 (by decide)
      exact Finset.mem_erase.mpr ⟨fun e => h1 (Fin.ext e), Finset.mem_erase.mpr ⟨fun e => h0 (Fin.ext e), hp⟩⟩
  have hinj : Function.Injective σ := by
    intro a b hab
    have e : ((σ a : Fin 2048) : ℕ) = σ b := congrArg _ hab
    fin_cases a <;> fin_cases b <;> first | rfl | (exfalso; simp only [σ] at e; simp at e; omega)
  rw [sorted_eq, (bef_total x).sortedFrom_eq_of_prefix (by omega) σ hinj (fun i j hij => D i _ fun l hl e => ?_)
    (fun i p hp => D i p fun j _ e => hp j e.symm) k]
  · fin_cases k <;> rfl
  · have := hinj e
    omega

end

/-! ### The operation that takes the greatest -/

/-- An index of a row with its column replaced. -/
theorem along_ap (b : Fin 4) (j q : Fin 2048) (h : 1 < 2) : (ix2 b j : S4x2048.Idx).along ⟨1, h⟩ q = ix2 b q := by
  funext a
  fin_cases a <;> rfl

/-- The place that an entry of the sort comes from. -/
abbrev src (x : FVec Ideal S4x2048 .f32) (b : Fin 4) (k : Fin 3) : Fin 2048 :=
  sortedFrom (fun k k' => decide (x (ix2 b k') < x (ix2 b k))) (k.castLE (by omega))

/-- The first three columns of what is sorted along with the values. -/
theorem sort_ap {β : Type} (x : FVec Ideal S4x2048 .f32) (y : S4x2048.Idx → β) (b : Fin 4) (k : Fin 3) :
    (Host.sort2 S4x2048 1 (fun l r => FloatOps.cmpfTotal .gt l.1 r.1) x y).1 (ix2 b (k.castLE (by omega))) = x (ix2 b (src x b k))
      ∧ (Host.sort2 S4x2048 1 (fun l r => FloatOps.cmpfTotal .gt l.1 r.1) x y).2 (ix2 b (k.castLE (by omega))) = y (ix2 b (src x b k)) := by
  have e : ∀ a a' : Fin 2048, (FloatOps.cmpfTotal (F := Ideal) (φ := .f32) .gt (x (ix2 b a)) (x (ix2 b a')) == 1#1) = decide (x (ix2 b a') < x (ix2 b a)) := by
    intro a a'
    show (BitVec.ofBool (decide (x (ix2 b a') < x (ix2 b a))) == 1#1) = _
    by_cases h : x (ix2 b a') < x (ix2 b a) <;> simp [h]
  have hs : sortedFrom (fun a a' => FloatOps.cmpfTotal (F := Ideal) (φ := .f32) .gt (x ((ix2 b (k.castLE (by omega)) : S4x2048.Idx).along ⟨1, by decide⟩ a))
      (x ((ix2 b (k.castLE (by omega)) : S4x2048.Idx).along ⟨1, by decide⟩ a')) == 1#1) (k.castLE (by omega)) = src x b k := by
    refine congrFun (congrArg sortedFrom (funext fun a => funext fun a' => ?_)) _
    refine Eq.trans ?_ (e a a')
    exact congrArg₂ (fun u v => (FloatOps.cmpfTotal (F := Ideal) (φ := .f32) .gt (x u) (x v) == 1#1)) (along_ap ..) (along_ap ..)
  unfold Host.sort2
  constructor
  · rw [dif_pos (by decide)]
    exact congrArg x ((along_ap b _ _ (by decide)).trans (congrArg (ix2 b) hs))
  · rw [dif_pos (by decide)]
    exact congrArg y ((along_ap b _ _ (by decide)).trans (congrArg (ix2 b) hs))

/-- The first three columns. -/
theorem slice_ap {α : Type} (y : S4x2048.Idx → α) (b : Fin 4) (k : Fin 3) :
    extractStridedSlice S4x3 (fun _ => 0) y sliceFits_S4x2048_S4x3 (ix2 b k) = y (ix2 b (k.castLE (by omega))) :=
  congrArg y (funext fun a => Fin.ext (by fin_cases a <;> exact Nat.zero_add _))

/-- The three greatest values of a row. -/
theorem topk_ap (x : FVec Ideal S4x2048 .f32) (b : Fin 4) (k : Fin 3) :
    (Host.topK S4x3 1 (FloatOps.cmpfTotal .gt) x sliceFits_S4x2048_S4x3).1 (ix2 b k) = x (ix2 b (src x b k))
      ∧ (Host.topK S4x3 1 (FloatOps.cmpfTotal .gt) x sliceFits_S4x2048_S4x3).2 (ix2 b k) = BitVec.ofNat 32 (src x b k) := by
  have hT : Host.topK S4x3 1 (FloatOps.cmpfTotal .gt) x sliceFits_S4x2048_S4x3
      = (extractStridedSlice S4x3 (fun _ => 0) (Host.sort2 S4x2048 1 (fun l r => FloatOps.cmpfTotal .gt l.1 r.1) x (iotaInDim S4x2048 32 ⟨1, by decide⟩)).1
          sliceFits_S4x2048_S4x3,
        extractStridedSlice S4x3 (fun _ => 0) (Host.sort2 S4x2048 1 (fun l r => FloatOps.cmpfTotal .gt l.1 r.1) x (iotaInDim S4x2048 32 ⟨1, by decide⟩)).2
          sliceFits_S4x2048_S4x3) := by
    have hi : (fun i : S4x2048.Idx => if hd : 1 < S4x2048.rank then iotaInDim S4x2048 32 ⟨1, hd⟩ i else 0#32)
        = iotaInDim S4x2048 32 ⟨1, by decide⟩ := funext fun i => dif_pos (by decide)
    unfold Host.topK
    simp only [hi]
  rw [hT]
  constructor
  · exact (slice_ap _ b k).trans (sort_ap x _ b k).1
  · have := (slice_ap _ b k).trans (sort_ap x (iotaInDim S4x2048 32 ⟨1, by decide⟩) b k).2
    refine this.trans ?_
    generalize src x b k = p
    rfl

/-! ### The periods and the weights -/

section
variable (h : (rargv V0).Real)
include h

/-- The autocorrelation of a batch. -/
abbrev rr (V0 : Valuation τ sig (Elt Ideal)) (b : ℕ) : ℕ → ℝ := Spec.acorr ((rargv V0).xs b)
/-- The three periods and their weights. -/
abbrev per (V0 : Valuation τ sig (Elt Ideal)) (b : ℕ) (k : Fin 3) : ℕ := ![Spec.p0 (rr V0 b), Spec.p1 (rr V0 b), Spec.p2 (rr V0 b)] k
abbrev wt (V0 : Valuation τ sig (Elt Ideal)) (b : ℕ) (k : Fin 3) : ℝ := ![Spec.w0 (rr V0 b), Spec.w1 (rr V0 b), Spec.w2 (rr V0 b)] k

omit h in
/-- The three lags are in the range. -/
theorem per_rng (b : ℕ) (k : Fin 3) : 32 ≤ per V0 b k ∧ per V0 b k ≤ 128 := by
  fin_cases k
  · exact Spec.p0_rng _
  · exact Spec.p1_rng _
  · exact Spec.p2_rng _

/-- The place that the sort brings to the front is the stated lag. -/
theorem src_eq (b : Fin 4) (k : Fin 3) : (src (res_main_v22 V0) b k : ℕ) = per V0 b k :=
  first3 (x := fun l => res_main_v22 V0 (ix2 b l)) (f := rr V0 b) (fun l => by
    rw [RGram.acorr_ap h]; simp only [Spec.lags, Finset.mem_Icc]) k

/-- The three values of the autocorrelation. -/
theorem values_ap (b : Fin 4) (k : Fin 3) : res_main_values V0 (ix2 b k) = ((rr V0 b (per V0 b k) : ℝ) : EReal) := by
  have := per_rng (V0 := V0) b k
  unfold res_main_values
  rw [(topk_ap _ b k).1, RGram.acorr_ap h, src_eq h, if_pos (by omega)]

/-- The three lags, as words. -/
theorem places_ap (b : Fin 4) (k : Fin 3) :
    (Host.topK S4x3 1 (FloatOps.cmpfTotal .gt) (res_main_v22 V0) sliceFits_S4x2048_S4x3).2 (ix2 b k) = BitVec.ofNat 32 (per V0 b k) := by
  rw [(topk_ap _ b k).2, src_eq h]

/-- The period of a batch's part. -/
theorem period_ap (q : Fin 12) : res_main_v37 V0 (ix1 q) = BitVec.ofNat 32 (per V0 (q / 3 : ℕ) ⟨q % 3, Nat.mod_lt _ (by omega)⟩) := by
  have := per_rng (V0 := V0) (q / 3 : ℕ) ⟨q % 3, Nat.mod_lt _ (by omega)⟩
  pointwise [res_main_v37]
  refine Eq.trans (congrArg _ ?_) (b := IntOp.maxsi (BitVec.ofNat 32 1) (BitVec.ofNat 32 (per V0 (q / 3 : ℕ) ⟨q % 3, Nat.mod_lt _ (by omega)⟩))) ?_
  · exact places_ap h ⟨q / 3, by omega⟩ ⟨q % 3, Nat.mod_lt _ (by omega)⟩
  · rw [max_w (by omega) (by omega), max_eq_right (by omega)]

/-- The greatest of the three values. -/
theorem top_ap (b : Fin 4) [DecidablePred fun i : S4x3.Idx => reducesTo_S4x3_S4_d1.drop i = ix1 b] :
    Finset.fold max (⊥ : EReal) (res_main_values V0 : S4x3.Idx → EReal) {i | reducesTo_S4x3_S4_d1.drop i = ix1 b}
      = ((Spec.max3 (rr V0 b (Spec.p0 (rr V0 b))) (rr V0 b (Spec.p1 (rr V0 b))) (rr V0 b (Spec.p2 (rr V0 b))) : ℝ) : EReal) := by
  suffices H : ∀ s : Finset S4x3.Idx, (∀ i, i ∈ s ↔ reducesTo_S4x3_S4_d1.drop i = ix1 b) →
      Finset.fold max (⊥ : EReal) (res_main_values V0 : S4x3.Idx → EReal) s
        = ((Spec.max3 (rr V0 b (Spec.p0 (rr V0 b))) (rr V0 b (Spec.p1 (rr V0 b))) (rr V0 b (Spec.p2 (rr V0 b))) : ℝ) : EReal) from
    H _ fun i => by rw [Finset.mem_filter]; simp
  intro s hs
  have e : s = {ix2 b 0, ix2 b 1, ix2 b 2} := by
    have : ∀ (b : Fin 4) (i : S4x3.Idx), reducesTo_S4x3_S4_d1.drop i = ix1 b ↔ i ∈ ({ix2 b 0, ix2 b 1, ix2 b 2} : Finset S4x3.Idx) := by
      decide
    ext i
    rw [hs, this b i]
  have n0 : (ix2 b 0 : S4x3.Idx) ∉ ({ix2 b 1, ix2 b 2} : Finset S4x3.Idx) := by fin_cases b <;> decide
  have n1 : (ix2 b 1 : S4x3.Idx) ∉ ({ix2 b 2} : Finset S4x3.Idx) := by fin_cases b <;> decide
  rw [e, Finset.fold_insert n0, Finset.fold_insert n1, Finset.fold_singleton, values_ap h, values_ap h, values_ap h, max_bot_right,
    coe_max, coe_max]
  unfold Spec.max3
  rw [max_assoc]
  rfl

/-- The three softmax weights. -/
theorem weight_ap (b : Fin 4) (k : Fin 3) : res_main_v33 V0 (ix2 b k) = ((wt V0 b k : ℝ) : EReal) := by
  pointwise [res_main_v33, res_main_v29]
  simp only [c_bot, top_ap h b, values_ap h, max_bot_left, ← EReal.coe_sub, Ideal.exp_coe, coe_sum, Fin.sum_univ_three]
  rw [div_real _ (by positivity)]
  fin_cases k <;> rfl

end

end Cert.RTop

end
-- ==== Proof.RGate.lean ====
/- The gate of the reference: the entropy of the three weights. -/
module

public import proofs.«01_k».proof.Proof.RTop
public import Idealize.ShloMosaic.Lib.Pointwise

@[expose] public section

set_option maxRecDepth 16384

noncomputable section

namespace Cert.RGate

open Idealize.ShloMosaic Idealize.SL.Sem
open Cert.ReferenceIdeal Cert.ReferenceIdeal.Gen Cert.ReferenceIdeal.Value Cert.Consts Cert.Words Cert.RArgs

variable {V0 : Valuation τ sig (Elt Ideal)}

/-- The gate of a batch. -/
theorem gate_ap (h : (rargv V0).Real) (b : Fin 4) :
    res_main_v335 V0 (ix1 b) = ((Spec.gateR (Spec.w0 (RTop.rr V0 b)) (Spec.w1 (RTop.rr V0 b)) (Spec.w2 (RTop.rr V0 b)) : ℝ) : EReal) := by
  have p : ∀ k, 0 < RTop.wt V0 b k + e8 := by
    intro k
    have := e8_pos
    fin_cases k
    · exact add_pos (Spec.soft_pos _ _ _ _) this
    · exact add_pos (Spec.soft_pos _ _ _ _) this
    · exact add_pos (Spec.soft_pos _ _ _ _) this
  have p3 : (0 : ℝ) < 3 + e8 := by have := e8_pos; linarith
  have hs : ∀ x : ℝ, 1 + Real.exp (-x) ≠ 0 := fun x => by positivity
  pointwise [res_main_v335]
  rw [show (id (constant (F := Ideal) S_ FTy.f32 1065353216#32) ix0) = ((1 : ℝ) : EReal) from c_one,
    show (id (constant (F := Ideal) S_ FTy.f32 0#32) ix0) = ((0 : ℝ) : EReal) from c_zero]
  simp only [RTop.weight_ap h, c_e8, c_3, c_4, c_half, ← EReal.coe_one, ← EReal.coe_add, log_real (p _), log_real p3, ← EReal.coe_mul, coe_sum,
    ← EReal.coe_neg, div_real _ Spec.ent_ne, ← EReal.coe_sub, coe_max, coe_min, Ideal.exp_coe, div_real _ (hs _)]
  congr 1
  unfold Spec.gateR Spec.sig
  rw [one_div]
  simp only [Fin.sum_univ_three]
  rfl

end Cert.RGate

end
-- ==== Proof.RLocal.lean ====
/- The local path of the reference. -/
module

public import proofs.«01_k».proof.Proof.RArgs
public import Idealize.ShloMosaic.Lib.Pointwise

@[expose] public section

set_option maxRecDepth 16384

noncomputable section

namespace Cert.RLocal

open Idealize.ShloMosaic Idealize.SL.Sem
open Cert.ReferenceIdeal Cert.ReferenceIdeal.Gen Cert.ReferenceIdeal.Value Cert.Consts Cert.Words Cert.RArgs

variable {V0 : Valuation τ sig (Elt Ideal)}

/-- The series of a batch with three zeros at either end. -/
def padX (X : ℕ → ℕ → ℝ) (i c : ℕ) : ℝ := if 3 ≤ i ∧ i < 2051 then X (i - 3) c else 0

section
variable (h : (rargv V0).Real)
include h

/-- The series padded by three zeros on either side. -/
theorem pad_ap (b : Fin 4) (c : Fin 128) (i : Fin 2054) : res_main_v233 V0 (ix3 b c i) = ((padX ((rargv V0).xs b) i c : ℝ) : EReal) := by
  have := i.2
  pointwise [res_main_v233]
  rw [show FloatOps.sitofp (F := Ideal) FTy.f32 0#32 = ((0 : ℝ) : EReal) from (fl_w (a := 0) (by norm_num)).trans (by norm_num)]
  simp only [x_ap h, coe_dite]
  unfold padX
  congr 1
  split_ifs <;> first | rfl | omega

/-- The two local convolutions. -/
theorem mix_ap (b : Fin 4) (o : Fin 128) (t : Fin 2048) :
    res_main_v285 V0 (ix3 b o t) = ((Spec.lmix (rargv V0).rw ((rargv V0).xs b) t o : ℝ) : EReal) := by
  pointwise [res_main_v285]
  simp only [pad_ap h, ldw_ap h, lpw_ap h]
  simp only [← EReal.coe_mul, ← EReal.coe_add, coe_sum]
  unfold Spec.lmix
  rw [Finset.sum_range]
  refine congrArg _ (Finset.sum_congr rfl fun c _ => ?_)
  unfold Spec.lconv
  simp only [Finset.sum_range_succ, Finset.sum_range_zero, zero_add]
  rw [mul_comm]
  simp only [Nat.add_comm (t : ℕ)]
  unfold padX
  simp only [zero_add]
  rfl

/-- The local path at an entry. -/
theorem local_ap (b : Fin 4) (t : Fin 2048) (o : Fin 128) :
    res_main_v299 V0 (ix3 b t o) = ((Spec.local_ (rargv V0).rw ((rargv V0).xs b) t o : ℝ) : EReal) := by
  pointwise [res_main_v299]
  simp only [mix_ap h, c_half, c_g1, c_g2, ← EReal.coe_one, ← EReal.coe_mul, ← EReal.coe_add, Ideal.tanh_coe]
  rfl

end

end Cert.RLocal

end
-- ==== Proof.RFold.lean ====
/- The reference's folded series: the places of the cycles, which of them count, and the means over the cycles. -/
module

public import proofs.«01_k».proof.Proof.RArgs
public import Idealize.ShloMosaic.Lib.Pointwise

@[expose] public section

set_option maxRecDepth 16384

noncomputable section

namespace Cert.RFold

open Idealize.ShloMosaic Idealize.SL.Sem
open Cert.ReferenceIdeal Cert.ReferenceIdeal.Gen Cert.ReferenceIdeal.Value Cert.Consts Cert.Words Cert.RArgs

variable {V0 : Valuation τ sig (Elt Ideal)}

section
variable {p : Fin 12 → ℕ} (hp : ∀ q, res_main_v37 V0 (ix1 q) = BitVec.ofNat 32 (p q)) (hr : ∀ q, 32 ≤ p q ∧ p q ≤ 128)
include hp hr

/-- The time of a place in a cycle, as a word. -/
theorem place_ap (q : Fin 12) (l : Fin 64) (s : Fin 128) : res_main_v54 V0 (ix3 q l s) = BitVec.ofNat 32 (l * p q + s) := by
  pointwise [res_main_v54, res_main_v47]
  rw [hp, mul_w, add_w]

/-- The numerator of the number of cycles, as a word. -/
theorem num_ap (q : Fin 12) : res_main_v41 V0 (ix1 q) = BitVec.ofNat 32 (2048 + p q - 1) := by
  have := hr q
  pointwise [res_main_v41]
  rw [hp, add_w, sub_w (by omega) (by omega)]

/-- The mask of the places that belong to a period. -/
theorem mask_ap (q : Fin 12) (l : Fin 64) (s : Fin 128) :
    res_main_v63 V0 (ix3 q l s) = bt ((s : ℕ) < p q ∧ l * p q + s < Spec.tpad (p q)) := by
  have := hr q
  have := l.2
  have : (l : ℕ) * p q ≤ 63 * 128 := Nat.mul_le_mul (by omega) (hr q).2
  have hd : (2048 + p q - 1) / p q * p q ≤ 2048 + p q - 1 := Nat.div_mul_le_self _ _
  pointwise [res_main_v63, res_main_v47, res_main_call4_v0]
  simp only [num_ap hp hr, hp, place_ap hp hr]
  rw [fdiv_w (by omega) (by omega) (by omega), mul_w, slt_w (by omega) (by omega), slt_w (by omega) (by omega), and_b]
  rfl

/-- The time modulo the length of a reflection, as a word. -/
theorem mod_ap (q : Fin 12) (l : Fin 64) (s : Fin 128) : res_main_v64 V0 (ix3 q l s) = BitVec.ofNat 32 ((l * p q + s) % 4094) := by
  have := hr q
  have := l.2
  have : (l : ℕ) * p q ≤ 63 * 128 := Nat.mul_le_mul (by omega) (hr q).2
  have hc : res_main_call5_v2 V0 ix0 = BitVec.ofNat 32 4094 := by
    pointwise [res_main_call5_v2, res_main_call5_v0]
    rfl
  have hm : res_main_call5_v4 V0 (ix3 q l s) = BitVec.ofNat 32 ((l * p q + s) % 4094) := by
    pointwise [res_main_call5_v4]
    rw [hc, place_ap hp hr, rem_w _ (by omega) (by omega) (by omega)]
  pointwise [res_main_v64]
  rw [hm, hc]
  simp (disch := omega) only [slt_w, ne_w, ne_b, and_b, add_w, sel_b]
  rw [if_neg (by omega)]

end

section
variable {p : Fin 12 → ℕ} (hp : ∀ q, res_main_v37 V0 (ix1 q) = BitVec.ofNat 32 (p q)) (hr : ∀ q, 32 ≤ p q ∧ p q ≤ 128) (h : (rargv V0).Real)
include hp hr h

/-- The folded series. -/
def fold (X : ℕ → ℕ → ℝ) (p l s c : ℕ) : ℝ := if s < p ∧ l * p + s < Spec.tpad p then X (Spec.rf (l * p + s)) c else 0

/-- The folded series at an entry. -/
theorem fold_ap (q : Fin 12) (c : Fin 128) (l : Fin 64) (s : Fin 128) :
    res_main_v75 V0 (ix4 q c l s) = ((fold ((rargv V0).xs (q / 3 : ℕ)) (p q) l s c : ℝ) : EReal) := by
  have := hr q
  have := l.2
  have := q.2
  have : (l : ℕ) * p q ≤ 63 * 128 := Nat.mul_le_mul (by omega) (hr q).2
  have hi : (broadcastInDim S12x64x128x1 ![0, 1, 2] bcast_S12x64x128_S12x64x128x1_0_1_2 (select (cmpi .slt (res_main_v64 V0) (broadcastInDim S12x64x128 ![] bcast_S_S12x64x128 (constantI S_ 32 2048#32))) (res_main_v64 V0) (subi (broadcastInDim S12x64x128 ![] bcast_S_S12x64x128 (constantI S_ 32 4094#32)) (res_main_v64 V0)))) (ix4 q l s 0) = BitVec.ofNat 32 (Spec.rf (l * p q + s)) := by
    pointwise
    rw [mod_ap hp hr, slt_w (by omega) (by omega), sub_w (by omega) (by omega), sel_b, if_w]
    rfl
  have hf : Spec.rf (l * p q + s) < 2048 := by unfold Spec.rf; split_ifs <;> omega
  pointwise [res_main_v75]
  rw [RGather.fold_ap _ _ q l s c hf hi, mask_ap hp hr, ufl_b]
  pointwise
  rw [x_ap h ⟨q / 3, by omega⟩ ⟨_, hf⟩ c, ← EReal.coe_mul, mul_ite, mul_one, mul_zero]
  rfl

/-- The mean of a cycle. -/
theorem cyc_ap (q : Fin 12) (c : Fin 128) (l : Fin 64) :
    res_main_v93 V0 (ix3 q c l) = ((Spec.cyc ((rargv V0).xs (q / 3 : ℕ)) (p q) l c : ℝ) : EReal) := by
  pointwise [res_main_v93]
  simp only [fold_ap hp hr h, coe_sum, c_128]
  rw [div_real _ (by norm_num)]
  unfold Spec.cyc
  simp only [Finset.sum_range]
  rfl

end

end Cert.RFold

end
-- ==== Proof.RConv.lean ====
/- The convolutions over the reference's cycles and the group norm. -/
module

public import proofs.«01_k».proof.Proof.RArgs
public import Idealize.ShloMosaic.Lib.Pointwise

@[expose] public section

set_option maxRecDepth 16384

noncomputable section

namespace Cert.RConv

open Idealize.ShloMosaic Idealize.SL.Sem
open Cert.ReferenceIdeal Cert.ReferenceIdeal.Gen Cert.ReferenceIdeal.Value Cert.Consts Cert.Words Cert.RArgs

variable {V0 : Valuation τ sig (Elt Ideal)}

/-- The cycles with four zeros at either end. -/
def padU (U : ℕ → ℕ → ℝ) (i c : ℕ) : ℝ := if 4 ≤ i ∧ i < 68 then U (i - 4) c else 0

/-- A sum over the places of a group, as a sum over its channels and the cycles. -/
theorem sum_group (f : ℕ → ℕ → ℝ) : ∑ m ∈ Finset.range 256, f (m / 64) (m % 64) = ∑ a ∈ Finset.range 4, ∑ l ∈ Finset.range 64, f a l := by
  rw [← Finset.sum_product']
  refine Finset.sum_nbij' (fun m => (m / 64, m % 64)) (fun x => x.1 * 64 + x.2) ?_ ?_ ?_ ?_ ?_
  · intro m hm; simp only [Finset.mem_product, Finset.mem_range] at hm ⊢; omega
  · intro x hx; simp only [Finset.mem_product, Finset.mem_range] at hx ⊢; omega
  · intro m hm; simp only [Finset.mem_range] at hm ⊢; omega
  · intro x hx
    simp only [Finset.mem_product, Finset.mem_range] at hx
    refine Prod.ext ?_ ?_ <;> simp only <;> omega
  · intro m _; rfl

/-- An array padded along its last axis, at an entry. -/
theorem padded (A : FVec Ideal S12x128x64 .f32) {U : ℕ → ℕ → ℝ} (q : Fin 12)
    (hA : ∀ (c : Fin 128) (l : Fin 64), A (ix3 q c l) = ((U l c : ℝ) : EReal)) (c : Fin 128) (i : Fin 72) :
    pad S12x128x72 ![0, 0, 4] ![0, 0, 4] ![0, 0, 0] A (sitofp .f32 (constantI S_ 32 0#32)) pads_S12x128x64_S12x128x72_000_000_440 h_S_ (ix3 q c i)
      = ((padU U i c : ℝ) : EReal) := by
  have := i.2
  pointwise
  rw [show FloatOps.sitofp (F := Ideal) FTy.f32 0#32 = ((0 : ℝ) : EReal) from (fl_w (a := 0) (by norm_num)).trans (by norm_num)]
  simp only [hA, coe_dite]
  unfold padU
  congr 1
  split_ifs <;> first | rfl | omega

section
variable (h : (rargv V0).Real) {u : Fin 12 → ℕ → ℕ → ℝ}
  (hu : ∀ (q : Fin 12) (c : Fin 128) (l : Fin 64), res_main_v93 V0 (ix3 q c l) = ((u q l c : ℝ) : EReal))
include h hu

/-- The padded cycles. -/
theorem pad_ap (q : Fin 12) (c : Fin 128) (i : Fin 72) : res_main_v94 V0 (ix3 q c i) = ((padU (u q) i c : ℝ) : EReal) :=
  padded (res_main_v93 V0) q (hu q) c i

/-- The two convolutions, in the shape of the groups. -/
theorem conv_ap (q : Fin 12) (g : Fin 32) (m : Fin 256) :
    res_main_v161 V0 (ix3 q g m) = ((Spec.pconv (rargv V0).rw (u q) (m % 64) (4 * g + m / 64) : ℝ) : EReal) := by
  have := g.2
  have := m.2
  pointwise [res_main_v161]
  simp only [pad_ap h hu, dw_ap h, pw_ap h, ← EReal.coe_mul, ← EReal.coe_add, coe_sum]
  unfold Spec.pconv
  rw [Finset.sum_range, Nat.mul_comm 4]
  congr 1
  refine Finset.sum_congr rfl fun c _ => ?_
  unfold Spec.dconv
  simp only [Finset.sum_range_succ, Finset.sum_range_zero, zero_add]
  rw [mul_comm]
  simp only [Nat.add_comm ((m : ℕ) % 64)]
  unfold padU
  simp only [zero_add]
  rfl

/-- The mean of a group. -/
theorem mean_ap (q : Fin 12) (g : Fin 32) (o : ℕ) (ho : o / 4 = g) :
    res_main_v165 V0 (ix3 q g 0) = ((Spec.mu (rargv V0).rw (u q) o : ℝ) : EReal) := by
  pointwise [res_main_v165]
  simp only [conv_ap h hu, coe_sum, c_256]
  rw [div_real _ (by norm_num)]
  unfold Spec.mu
  rw [← sum_group fun a l => Spec.pconv (rargv V0).rw (u q) l (o / 4 * 4 + a), ho, Finset.sum_range]
  simp only [Nat.mul_comm]

/-- The deviation of an entry from its group's mean. -/
theorem dev_ap (q : Fin 12) (g : Fin 32) (m : Fin 256) (o : ℕ) (ho : o / 4 = g) :
    res_main_v167 V0 (ix3 q g m) = ((Spec.pconv (rargv V0).rw (u q) (m % 64) (o / 4 * 4 + m / 64) - Spec.mu (rargv V0).rw (u q) o : ℝ) : EReal) := by
  pointwise [res_main_v167]
  rw [conv_ap h hu, mean_ap h hu q g o ho, ← EReal.coe_sub, ho, Nat.mul_comm]

/-- The variance of a group. -/
theorem var_ap (q : Fin 12) (g : Fin 32) (o : ℕ) (ho : o / 4 = g) (D : FVec Ideal S12x32x256 .f32) (hD : D = res_main_v167 V0) :
    ∑ m : Fin 256, D (ix3 q g m) * D (ix3 q g m) = ((Spec.var (rargv V0).rw (u q) o * 256 : ℝ) : EReal) := by
  subst hD
  simp only [fun m => dev_ap h hu q g m o ho, ← EReal.coe_mul, coe_sum]
  unfold Spec.var
  rw [div_mul_cancel₀ _ (by norm_num), ← sum_group fun a l => (Spec.pconv (rargv V0).rw (u q) l (o / 4 * 4 + a) - Spec.mu (rargv V0).rw (u q) o)
    * (Spec.pconv (rargv V0).rw (u q) l (o / 4 * 4 + a) - Spec.mu (rargv V0).rw (u q) o), Finset.sum_range]

/-- The group norm at an entry. -/
theorem norm_ap (q : Fin 12) (o : Fin 128) (l : Fin 64) :
    res_main_v186 V0 (ix3 q o l) = ((Spec.gnorm (rargv V0).rw (u q) l o : ℝ) : EReal) := by
  have := o.2
  have := l.2
  have hv : 0 ≤ Spec.var (rargv V0).rw (u q) o + e5 := by have := Spec.var_nonneg (rargv V0).rw (u q) o; have := e5_pos; linarith
  have hs : Real.sqrt (Spec.var (rargv V0).rw (u q) o + e5) ≠ 0 := by
    have := Spec.var_nonneg (rargv V0).rw (u q) o; have := e5_pos; positivity
  have e0 : ((o : ℕ) % 4 * 64 + l) % 64 = l := by omega
  have e1 : (o : ℕ) / 4 * 4 + ((o : ℕ) % 4 * 64 + l) / 64 = o := by omega
  have hd := dev_ap h hu q ⟨(o : ℕ) / 4, by omega⟩ ⟨(o : ℕ) % 4 * 64 + l, by omega⟩ o rfl
  pointwise [res_main_v167] at hd
  pointwise [res_main_v186]
  rw [hd, var_ap h hu q ⟨(o : ℕ) / 4, by omega⟩ o rfl (res_main_v167 V0) rfl, gam_ap h, bet_ap h, c_256, c_e5, div_real _ (by norm_num),
    mul_div_cancel_right₀ _ (by norm_num), ← EReal.coe_add, sqrt_real hv, div_real _ hs, ← EReal.coe_mul, ← EReal.coe_add]
  unfold Spec.gnorm
  simp only [e0, e1]

end

end Cert.RConv

end
-- ==== Proof.RPeri.lean ====
/- The periodic path of the reference. -/
module

public import proofs.«01_k».proof.Proof.RTop
public import proofs.«01_k».proof.Proof.RFold
public import proofs.«01_k».proof.Proof.RConv
public import Idealize.ShloMosaic.Lib.Pointwise

@[expose] public section

set_option maxRecDepth 16384

noncomputable section

namespace Cert.RPeri

open Idealize.ShloMosaic Idealize.SL.Sem
open Cert.ReferenceIdeal Cert.ReferenceIdeal.Gen Cert.ReferenceIdeal.Value Cert.Consts Cert.Words Cert.RArgs

variable {V0 : Valuation τ sig (Elt Ideal)}

/-- A constant word at its one index. -/
theorem word_ap (n : BitVec 32) : (id (constantI S_ 32 n) ix0) = n := rfl

/-- The place of a time in the folded series, counted through the rows of 128 places. -/
theorem place_rng {p t : ℕ} (hp : 32 ≤ p ∧ p ≤ 128) (ht : t < 2048) : t / p ≤ 63 ∧ t - t / p * p < p ∧ t / p * p ≤ t := by
  have h1 : t / p * p ≤ t := Nat.div_mul_le_self _ _
  have h2 := Nat.lt_div_mul_add (a := t) (b := p) (by omega)
  have h3 : t / p ≤ t / 32 := Nat.div_le_div_left hp.1 (by omega)
  omega

/-- The folded series at the place of a time is the series at that time. -/
theorem fold_at (X : ℕ → ℕ → ℝ) {p t : ℕ} (hp : 32 ≤ p ∧ p ≤ 128) (ht : t < 2048) (o : ℕ) :
    (t - t / p * p < p ∧ t / p * p + (t - t / p * p) < Spec.tpad p) ∧ RFold.fold X p (t / p) (t - t / p * p) o = X t o := by
  obtain ⟨h1, h2, h3⟩ := place_rng hp ht
  have h4 : 2048 ≤ Spec.tpad p := by
    have := Nat.lt_div_mul_add (a := 2048 + p - 1) (b := p) (by omega)
    unfold Spec.tpad
    omega
  have h5 : t / p * p + (t - t / p * p) = t := by omega
  refine ⟨⟨h2, by omega⟩, ?_⟩
  unfold RFold.fold
  rw [if_pos ⟨h2, by omega⟩, h5]
  unfold Spec.rf
  rw [if_pos (by omega), Nat.mod_eq_of_lt (by omega)]

/-- The period of a part, and the means over its cycles. -/
abbrev pq (V0 : Valuation τ sig (Elt Ideal)) (q : Fin 12) : ℕ := RTop.per V0 (q / 3 : ℕ) ⟨q % 3, Nat.mod_lt _ (by omega)⟩
abbrev uq (V0 : Valuation τ sig (Elt Ideal)) (q : Fin 12) : ℕ → ℕ → ℝ := Spec.cyc ((rargv V0).xs (q / 3 : ℕ)) (pq V0 q)

/-- The period of a copy is in the range. -/
theorem pq_rng (q : Fin 12) : 32 ≤ pq V0 q ∧ pq V0 q ≤ 128 := RTop.per_rng _ _

/-- The place that the reference reads for a time. -/
theorem idx_w {p t : ℕ} (hp : 32 ≤ p ∧ p ≤ 128) (ht : t < 2048) :
    IntOp.minsi (BitVec.ofNat 32 8191) (IntOp.maxsi (BitVec.ofNat 32 0) (IntOp.addi (IntOp.muli (IntOp.minsi (BitVec.ofNat 32 63)
        (IntOp.maxsi (BitVec.ofNat 32 0) (BitVec.ofNat 32 (t / p)))) (BitVec.ofNat 32 128))
      (IntOp.minsi (BitVec.ofNat 32 127) (IntOp.maxsi (BitVec.ofNat 32 0) (IntOp.subi (BitVec.ofNat 32 t)
        (IntOp.muli (BitVec.ofNat 32 (t / p)) (BitVec.ofNat 32 p)))))))
      = BitVec.ofNat 32 (t / p * 128 + (t - t / p * p)) := by
  obtain ⟨h1, h2, h3⟩ := place_rng hp ht
  generalize t / p = d at *
  rw [mul_w, sub_w (by omega) h3, max_w (by omega) (by omega), max_w (by omega) (by omega), min_w (by omega) (by omega),
    min_w (by omega) (by omega), max_eq_right (by omega), max_eq_right (by omega), min_eq_right (by omega), min_eq_right (by omega),
    mul_w, add_w, max_w (by omega) (by omega), min_w (by omega) (by omega), max_eq_right (by omega), min_eq_right (by omega)]

/-- The scalar computation at one place. -/
theorem cell {A C R M K : EReal} {D : Fin 128 → Fin 64 → EReal} {G : Fin 128 → EReal} {a w : ℝ} {W : Spec.RW} {U : ℕ → ℕ → ℝ}
    {l : ℕ} {o : Fin 128} (hA : A = (a : EReal)) (hC : C = ((Spec.gnorm W U l o : ℝ) : EReal))
    (hD : ∀ (c : Fin 128) (l : Fin 64), D c l = ((U l c : ℝ) : EReal)) (hG : ∀ c : Fin 128, G c = ((W.gt o c : ℝ) : EReal))
    (hR : R = ((W.res o : ℝ) : EReal)) (hM : M = ((1 : ℝ) : EReal)) (hK : K = (w : EReal)) :
    (A + C * (Ideal.ofBits .f32 1056964608#32 * (1 + Ideal.tanh (Ideal.ofBits .f32 1061962282#32
        * (C + Ideal.ofBits .f32 1027024659#32 * (C * C * C)))))
      * Ideal.div 1 (1 + Ideal.exp (-∑ x, Ideal.div (∑ y, D x y) (Ideal.ofBits .f32 1115684864#32) * G x)) * R * M) * K
      = (((a + Spec.add W U l o) * w : ℝ) : EReal) := by
  have hs : ∀ x : ℝ, 1 + Real.exp (-x) ≠ 0 := fun x => by positivity
  have hd : ∀ x : Fin 128, Ideal.div (∑ y, D x y) (Ideal.ofBits .f32 1115684864#32) * G x
      = (((∑ y : Fin 64, U y x) / 64 * W.gt o x : ℝ) : EReal) := by
    intro x
    simp only [hD, hG, coe_sum]
    rw [c_64, div_real _ (by norm_num), ← EReal.coe_mul]
  simp only [hd, coe_sum]
  subst hA hC hR hM hK
  rw [c_half, c_g1, c_g2]
  simp only [← EReal.coe_one, ← EReal.coe_mul, ← EReal.coe_add, ← EReal.coe_neg, Ideal.exp_coe, Ideal.tanh_coe]
  rw [div_real _ (hs _)]
  simp only [← EReal.coe_mul, ← EReal.coe_add]
  congr 1
  unfold Spec.add Spec.gelu Spec.cgate Spec.sig
  rw [mul_one]
  simp only [Finset.sum_range, one_div]

section
variable (h : (rargv V0).Real)
include h

/-- The means of the cycles of a copy. -/
theorem cyc_ap (q : Fin 12) (c : Fin 128) (l : Fin 64) : res_main_v93 V0 (ix3 q c l) = ((uq V0 q l c : ℝ) : EReal) :=
  RFold.cyc_ap (p := pq V0) (RTop.period_ap h) pq_rng h q c l

/-- The weighted part of a period. -/
theorem part_ap (b : Fin 4) (k : Fin 3) (t : Fin 2048) (o : Fin 128) :
    res_main_v230 V0 (ix4 b k t o)
      = ((((rargv V0).xs b t o + Spec.add (rargv V0).rw (Spec.cyc ((rargv V0).xs b) (RTop.per V0 b k)) (t / RTop.per V0 b k) o) * RTop.wt V0 b k : ℝ) : EReal) := by
  have hb := b.2
  have hk := k.2
  have ht := t.2
  have hq : (b : ℕ) * 3 + k < 12 := by omega
  have e3 : ((b : ℕ) * 3 + k) / 3 = b := by omega
  have em : ((b : ℕ) * 3 + k) % 3 = k := by omega
  have hp : pq V0 ⟨(b : ℕ) * 3 + k, hq⟩ = RTop.per V0 b k := by
    show RTop.per V0 (((b : ℕ) * 3 + k) / 3) ⟨((b : ℕ) * 3 + k) % 3, _⟩ = _
    exact congrArg₂ (RTop.per V0) e3 (Fin.ext em)
  have hu : uq V0 ⟨(b : ℕ) * 3 + k, hq⟩ = Spec.cyc ((rargv V0).xs b) (RTop.per V0 b k) := by
    unfold uq
    rw [hp]
    show Spec.cyc ((rargv V0).xs (((b : ℕ) * 3 + k) / 3)) _ = _
    rw [e3]
  have hr := RTop.per_rng (V0 := V0) b k
  obtain ⟨h1, h2, h3⟩ := place_rng hr ht
  obtain ⟨f1, f2⟩ := fold_at ((rargv V0).xs b) hr ht o
  obtain ⟨n, hn', hn⟩ : ∃ n : ℕ, n = (t : ℕ) / RTop.per V0 b k * 128 + (t - t / RTop.per V0 b k * RTop.per V0 b k) ∧ n < 8192 :=
    ⟨_, rfl, by omega⟩
  have d1 : n / 128 = t / RTop.per V0 b k := by omega
  have d2 : n % 128 = t - t / RTop.per V0 b k * RTop.per V0 b k := by omega
  have hP : res_main_v37 V0 (ix1 ⟨(b : ℕ) * 3 + k, hq⟩) = BitVec.ofNat 32 (RTop.per V0 b k) := hp ▸ RTop.period_ap h ⟨(b : ℕ) * 3 + k, hq⟩
  have hX : (rargv V0).xs (((b : ℕ) * 3 + k) / 3) = (rargv V0).xs b := by rw [e3]
  have hA : ∀ (L : Fin 64) (S : Fin 128), (L : ℕ) = t / RTop.per V0 b k → (S : ℕ) = t - t / RTop.per V0 b k * RTop.per V0 b k →
      res_main_v75 V0 (ix4 ⟨(b : ℕ) * 3 + k, hq⟩ o L S) = (((rargv V0).xs b t o : ℝ) : EReal) := by
    intro L S hL hS
    rw [RFold.fold_ap (p := pq V0) (RTop.period_ap h) pq_rng h, hp, hL, hS, ← f2]
    show ((RFold.fold ((rargv V0).xs (((b : ℕ) * 3 + k) / 3)) _ _ _ _ : ℝ) : EReal) = _
    rw [hX]
  have hB : ∀ (L : Fin 64) (S : Fin 128), (L : ℕ) = t / RTop.per V0 b k → (S : ℕ) = t - t / RTop.per V0 b k * RTop.per V0 b k →
      FloatOps.uitofp (F := Ideal) .f32 (res_main_v63 V0 (ix3 ⟨(b : ℕ) * 3 + k, hq⟩ L S)) = ((1 : ℝ) : EReal) := by
    intro L S hL hS
    rw [RFold.mask_ap (p := pq V0) (RTop.period_ap h) pq_rng, ufl_b, hp, hL, hS, if_pos f1]
  have hC : ∀ L : Fin 64, (L : ℕ) = t / RTop.per V0 b k → res_main_v186 V0 (ix3 ⟨(b : ℕ) * 3 + k, hq⟩ o L)
      = ((Spec.gnorm (rargv V0).rw (Spec.cyc ((rargv V0).xs b) (RTop.per V0 b k)) (t / RTop.per V0 b k) o : ℝ) : EReal) := by
    intro L hL
    rw [RConv.norm_ap h (cyc_ap h), hu, hL]
  have hD : ∀ (c : Fin 128) (l : Fin 64), res_main_v93 V0 (ix3 ⟨(b : ℕ) * 3 + k, hq⟩ c l)
      = ((Spec.cyc ((rargv V0).xs b) (RTop.per V0 b k) l c : ℝ) : EReal) := by
    intro c l
    rw [cyc_ap h, hu]
  pointwise [res_main_v230]
  rw [RGather.unfold_ap _ _ _ _ _ hn]
  · pointwise
    exact cell (hA ⟨n / 128, by omega⟩ ⟨n % 128, by omega⟩ d1 d2) (hC ⟨n / 128, by omega⟩ d1) hD (fun c => gt_ap h o c) (res_ap h o)
      (hB ⟨n / 128, by omega⟩ ⟨n % 128, by omega⟩ d1 d2) (RTop.weight_ap h b k)
  · pointwise [res_main_call8_v2, res_main_call10_v2, res_main_v80, res_main_v83, res_main_v79]
    rw [hP, fdiv_w (by omega) (by omega) (by omega), hn']
    exact idx_w hr ht

/-- The periodic path. -/
theorem peri_ap (b : Fin 4) (t : Fin 2048) (o : Fin 128) :
    res_main_v231 V0 (ix3 b t o) = ((Spec.peri (rargv V0).rw ((rargv V0).xs b) t o : ℝ) : EReal) := by
  pointwise [res_main_v231]
  simp only [part_ap h, coe_sum, Fin.sum_univ_three]
  rfl

end

end Cert.RPeri

end
-- ==== Proof.RRun.lean ====
/- The reference's result: every entry of the array its run ends at is the stated value, and the run says so. -/
module

public import proofs.«01_k».proof.Proof.RGate
public import proofs.«01_k».proof.Proof.RLocal
public import proofs.«01_k».proof.Proof.RPeri
public import Idealize.ShloMosaic.Lib.Pointwise

@[expose] public section

set_option maxRecDepth 16384

noncomputable section

namespace Cert.RRun

open Idealize.ShloMosaic Idealize.SL.Sem
open Cert.ReferenceIdeal Cert.ReferenceIdeal.Gen Cert.ReferenceIdeal.Value Cert.Consts Cert.Words Cert.RArgs

variable {V0 : Valuation τ sig (Elt Ideal)}

/-- The scalar computation at one place of the result. -/
theorem cell {x g lo pe : EReal} {L P : Fin 2048 → EReal} {X : ℕ → ℕ → ℝ} {l p : ℕ → ℕ → ℝ} {G : ℝ} {o : Fin 128} {t : Fin 2048}
    (hx : x = ((X t o : ℝ) : EReal)) (hg : g = (G : EReal)) (hL : ∀ s : Fin 2048, L s = ((l s o : ℝ) : EReal))
    (hP : ∀ s : Fin 2048, P s = ((p s o : ℝ) : EReal)) (hlo : lo = ((l t o : ℝ) : EReal)) (hpe : pe = ((p t o : ℝ) : EReal)) :
    x + (g * pe + (1 - g) * Ideal.ofBits .f32 0x3E99999A#32
      * (lo - Ideal.div (∑ s, L s * P s) ((∑ s, P s * P s) + Ideal.ofBits .f32 0x358637BD#32) * pe))
      = ((Spec.fuse X l p G t o : ℝ) : EReal) := by
  have hd : (∑ s : Fin 2048, p s o * p s o) + e6 ≠ 0 := by
    have h1 : 0 ≤ ∑ s : Fin 2048, p s o * p s o := Finset.sum_nonneg fun _ _ => mul_self_nonneg _
    have h2 := e6_pos
    linarith
  subst hx hg hlo hpe
  simp only [hL, hP, ← EReal.coe_mul, coe_sum]
  rw [c_beta, c_e6]
  simp only [← EReal.coe_one, ← EReal.coe_mul, ← EReal.coe_add, ← EReal.coe_sub]
  rw [div_real _ hd]
  simp only [← EReal.coe_mul, ← EReal.coe_add, ← EReal.coe_sub]
  unfold Spec.fuse
  simp only [Finset.sum_range]

/-- The last operations of the reference: the fusion of the two paths. -/
def res (V0 : Valuation τ sig (Elt Ideal)) : FVec Ideal S4x2048x128 .f32 :=
  addf (V0 (Proc.devRef .tc main_arg0)) (addf (mulf (broadcastInDim S4x2048x128 ![0, 1, 2] bcast_S4x1x1_S4x2048x128_0_1_2 (broadcastInDim S4x1x1 ![0] bcast_S4_S4x1x1_0 (res_main_v335 V0))) (res_main_v231 V0)) (mulf (broadcastInDim S4x2048x128 ![0, 1, 2] bcast_S4x1x1_S4x2048x128_0_1_2 (mulf (broadcastInDim S4x1x1 ![0] bcast_S4_S4x1x1_0 (subf (broadcastInDim S4 ![] bcast_S_S4 (constant S_ .f32 0x3F800000#32)) (res_main_v335 V0))) (broadcastInDim S4x1x1 ![] bcast_S_S4x1x1 (constant S_ .f32 0x3E99999A#32)))) (subf (res_main_v299 V0) (mulf (broadcastInDim S4x2048x128 ![0, 1, 2] bcast_S4x1x128_S4x2048x128_0_1_2 (Host.divf (broadcastInDim S4x1x128 ![0, 2] bcast_S4x128_S4x1x128_0_2 (Host.reduceAdd (mulf (res_main_v299 V0) (res_main_v231 V0)) (constant S_ .f32 0x00000000#32) reducesTo_S4x2048x128_S4x128_d1 h_S_)) (addf (broadcastInDim S4x1x128 ![0, 2] bcast_S4x128_S4x1x128_0_2 (Host.reduceAdd (mulf (res_main_v231 V0) (res_main_v231 V0)) (constant S_ .f32 0x00000000#32) reducesTo_S4x2048x128_S4x128_d1 h_S_)) (broadcastInDim S4x1x128 ![] bcast_S_S4x1x128 (constant S_ .f32 0x358637BD#32))))) (res_main_v231 V0)))))

variable (h : (rargv V0).Real)
include h

/-- The result at an entry. -/
theorem out_ap (b : Fin 4) (t : Fin 2048) (o : Fin 128) :
    res V0 (ix3 b t o) = (rargv V0).result (ix3 b t o) := by
  pointwise [res]
  exact cell (x_ap h b t o) (RGate.gate_ap h b) (fun s => RLocal.local_ap h b s o) (fun s => RPeri.peri_ap h b s o)
    (RLocal.local_ap h b t o) (RPeri.peri_ap h b t o)

/-- The result. -/
theorem res_eq : res V0 = (rargv V0).result := by
  funext i
  rw [eq_ix3 i]
  exact out_ap h _ _ _

end Cert.RRun

end
-- ==== Proof.Bridge.lean ====
/- The value claim: under the precondition every entry of every argument is a real number, and then both programs end at
   the same stated result. -/
module

public import proofs.«01_k».proof.Defs
public import proofs.«01_k».proof.Proof.KRun
public import proofs.«01_k».proof.Proof.RRun
public import proofs.«01_k».proof.Proof.Gen.KernelIdeal
public import proofs.«01_k».proof.Proof.Gen.ReferenceIdeal
public import Idealize.ShloMosaic.Lib.ReduceAll

@[expose] public section

set_option maxRecDepth 16384

noncomputable section

namespace Cert.Bridge

open Idealize.ShloMosaic Idealize.ShloMosaic.TcCoe Idealize.SL.Sem Idealize.ShloMosaic.StableHlo

/-- The shape relations the precondition's operations take. -/
instance facts : Cert.Pre_finite_args.Facts where
  bcast_S_S4x2048x128 := by decide
  reducesTo_S4x2048x128_S_d0_1_2 := by decide
  h_S_ := by decide
  bcast_S_S128x1x9 := by decide
  reducesTo_S128x1x9_S_d0_1_2 := by decide
  bcast_S_S128x128 := by decide
  reducesTo_S128x128_S_d0_1 := by decide
  bcast_S_S128 := by decide
  reducesTo_S128_S_d0 := by decide
  bcast_S_S1x128x1x1 := by decide
  reducesTo_S1x128x1x1_S_d0_1_2_3 := by decide
  bcast_S_S128x1x7 := by decide
  reducesTo_S128x1x7_S_d0_1_2 := by decide

/-- The bound of the precondition is infinity. -/
theorem c_top : Ideal.ofBits .f32 0x7F800000#32 = (⊤ : EReal) := by
  simp [Ideal.ofBits, Ideal.ieee]

/-- An extended real whose absolute value is below infinity is a real number. -/
theorem real_of_abs {x : EReal} (h : max x (-x) < ⊤) : ((x.toReal : ℝ) : EReal) = x := by
  refine EReal.coe_toReal (fun e => ?_) (fun e => ?_)
  · rw [e] at h; simp at h
  · rw [e] at h; simp at h

/-- The test of one entry, read back. -/
theorem real_of_test {x : Ideal .f32}
    (h : FloatOps.cmpf .olt (FloatOps.hostAbsf x) (FloatOps.ofBits (F := Ideal) .f32 0x7F800000#32) = 1#1) :
    ((x.toReal : ℝ) : EReal) = x := by
  have h' : BitVec.ofBool (decide (max (x : EReal) (-(x : EReal)) < Ideal.ofBits .f32 0x7F800000#32)) = 1#1 := h
  rw [c_top] at h'
  by_cases hx : max (x : EReal) (-(x : EReal)) < ⊤
  · exact real_of_abs hx
  · rw [decide_eq_false hx] at h'
    exact absurd h' (by decide)

instance : Subsingleton Cert.Pre_finite_args.S_.Idx := ⟨fun a b => funext fun i => i.elim0⟩

/-- The test of a whole array, read back: every entry is a real number. -/
theorem real_of_all {s : Shape} {axes : List (Fin s.rank)} (a : FVec Ideal s .f32) (dims : Fin 0 → Fin s.rank)
    (hb : Cert.Pre_finite_args.S_.BroadcastsInDim s dims) (hr : s.ReducesTo axes Cert.Pre_finite_args.S_)
    (hu : 0 < Cert.Pre_finite_args.S_.numel) (j : Cert.Pre_finite_args.S_.Idx)
    (h : Host.reduce IntOp.andi (cmpf .olt (Host.absf a)
        (broadcastInDim s dims hb (constant (F := Ideal) Cert.Pre_finite_args.S_ .f32 0x7F800000#32)))
      (constantI Cert.Pre_finite_args.S_ 1 1#1) hr hu j = 1#1) : Args.Real a :=
  fun i => real_of_test (Host.reduce_andi_all _ _ hr hu j h i)

/-- The precondition says of every argument that its entries are real numbers. -/
theorem real_of_pre (A : Args.Argv)
    (h : Cert.Pre_finite_args.fn (F := Ideal) A.x A.dw A.pw A.gam A.bet A.gt A.res A.ldw A.lpw = fun _ => 1#1) : A.Real := by
  have h0 := congrFun h (fun i => i.elim0)
  unfold Cert.Pre_finite_args.fn Cert.Pre_finite_args.fn_part1 Cert.Pre_finite_args.fn_part2 at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all _ _ _ _ _ _ h0, real_of_all _ _ _ _ _ _ h1, real_of_all _ _ _ _ _ _ h2, real_of_all _ _ _ _ _ _ h3,
    real_of_all _ _ _ _ _ _ h4, real_of_all _ _ _ _ _ _ h5, real_of_all _ _ _ _ _ _ h6, real_of_all _ _ _ _ _ _ h7,
    real_of_all _ _ _ _ _ _ h8⟩

/-- The kernel and the reference end at equal results. -/
theorem algebraic :
    Cert.algebraic_KernelIdeal_ReferenceIdeal_pre_finite_args := by
  intro m ρ m' ρ' hpre hagree
  have hA : ∀ c, (KPack.argv m c).Real := fun c => real_of_pre (KPack.argv m c) (hpre c)
  have hE : ∀ c, RArgs.rargv (launchContents m' c) = KPack.argv m c := by
    intro c
    obtain ⟨e0, e1, e2, e3, e4, e5, e6, e7, e8⟩ := hagree c
    exact (Args.Argv.mk.injEq ..).mpr ⟨e0, e1, e2, e3, e4, e5, e6, e7, e8⟩
  refine ⟨fun c => (KPack.argv m c).result, KRun.run m ρ hA, ?_⟩
  refine (θ_run Cert.ReferenceIdeal.defs _ _).mono (fun _ h c => ⟨(h c).1.trans ?_, (h c).2⟩)
    (Cert.ReferenceIdeal.Value.run (F := Ideal) m' ρ')
  exact (RRun.res_eq (V0 := launchContents m' c) (hE c ▸ hA c)).trans (congrArg Args.Argv.result (hE c))

end Cert.Bridge

end
-- ==== Proof.lean ====
/- The certificate: the frames of the three programs, the kernel's named constant, and the equality of the kernel's result
   with the reference's. -/
module

public import proofs.«01_k».proof.Defs
public import proofs.«01_k».proof.Proof.Bridge
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel terminates without fault and leaves its arguments as they were. -/
theorem frame_kernel : Cert.quiescent_Kernel := fun m ρ _ => Cert.Kernel.Gen.frame m ρ

/-- So does the ideal kernel. -/
theorem frame_kernelIdeal : Cert.quiescent_KernelIdeal := fun m ρ _ => Cert.KernelIdeal.Gen.frame m ρ

/-- And so under the precondition. -/
theorem frame_kernelIdeal_finite : Cert.quiescent_KernelIdeal_pre_finite_args := fun m ρ _ => frame_kernelIdeal m ρ trivial

/-- So does the ideal reference, which launches nothing. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- And so under the precondition. -/
theorem frame_referenceIdeal_finite : Cert.quiescent_ReferenceIdeal_pre_finite_args := fun m ρ _ => frame_referenceIdeal m ρ trivial

/-- The mask constant of the kernel, named as minus infinity, is that at the ideal instance. -/
theorem preserves_kernel : Cert.preserves_Kernel_KernelIdeal :=
  IdealRules.named_const.statement Cert.KernelIdeal.κ "neg" .f32 0xFF61B1E6#32 ⊥ rfl

/-- The certificate's claims together. -/
theorem claim : Cert.Claim :=
  ⟨Cert.Kernel.Gen.facts, Cert.KernelIdeal.Gen.facts, Cert.ReferenceIdeal.Gen.facts, Cert.Bridge.facts,
    frame_kernel, frame_kernelIdeal, frame_kernelIdeal_finite, frame_referenceIdeal, frame_referenceIdeal_finite,
    preserves_kernel, Cert.Bridge.algebraic⟩

end Cert.Proof

end
